-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![2048, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S8 : Shape := ⟨1, ![8]⟩
abbrev S1x8 : Shape := ⟨2, ![1, 8]⟩
abbrev S512x8 : Shape := ⟨2, ![512, 8]⟩
abbrev S_ : Shape := ⟨0, ![]⟩
abbrev S512 : Shape := ⟨1, ![512]⟩
abbrev S512x512 : Shape := ⟨2, ![512, 512]⟩
abbrev S3x1x8 : Shape := ⟨3, ![3, 1, 8]⟩
abbrev S6 : Shape := ⟨1, ![6]⟩
abbrev S3 : Shape := ⟨1, ![3]⟩
abbrev S1 : Shape := ⟨1, ![1]⟩
abbrev S1x1x8 : Shape := ⟨3, ![1, 1, 8]⟩
abbrev S1x256x512 : Shape := ⟨3, ![1, 256, 512]⟩
abbrev S256x512 : Shape := ⟨2, ![256, 512]⟩

abbrev nBuf : Space → Nat
  | .hbm => 24
  | .vmem => 10
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S2x256x512, .f32⟩
  | .hbm, ⟨4, _⟩ => ⟨S8, .i32⟩
  | .hbm, ⟨5, _⟩ => ⟨S1x8, .i32⟩
  | .hbm, ⟨6, _⟩ => ⟨S512x8, .i32⟩
  | .hbm, ⟨7, _⟩ => ⟨S512x8, .i32⟩
  | .hbm, ⟨8, _⟩ => ⟨S512x8, .i1⟩
  | .hbm, ⟨9, _⟩ => ⟨S512x8, .f32⟩
  | .hbm, ⟨10, _⟩ => ⟨S_, .f32⟩
  | .hbm, ⟨11, _⟩ => ⟨S_, .f32⟩
  | .hbm, ⟨12, _⟩ => ⟨S512x8, .f32⟩
  | .hbm, ⟨13, _⟩ => ⟨S512x8, .f32⟩
  | .hbm, ⟨14, _⟩ => ⟨S512x8, .f32⟩
  | .hbm, ⟨15, _⟩ => ⟨S_, .f32⟩
  | .hbm, ⟨16, _⟩ => ⟨S512, .f32⟩
  | .hbm, ⟨17, _⟩ => ⟨S512x1, .f32⟩
  | .hbm, ⟨18, _⟩ => ⟨S_, .f32⟩
  | .hbm, ⟨19, _⟩ => ⟨S8, .f32⟩
  | .hbm, ⟨20, _⟩ => ⟨S1x8, .f32⟩
  | .hbm, ⟨21, _⟩ => ⟨S512x256, .bf16⟩
  | .hbm, ⟨22, _⟩ => ⟨S2x256x512, .bf16⟩
  | .hbm, ⟨23, _⟩ => ⟨S512x512, .f32⟩
  | .local _ .vmem, ⟨0, _⟩ => ⟨S512x256, .bf16⟩
  | .local _ .vmem, ⟨1, _⟩ => ⟨S512x1, .i32⟩
  | .local _ .vmem, ⟨2, _⟩ => ⟨S512x1, .f32⟩
  | .local _ .vmem, ⟨3, _⟩ => ⟨S1x8, .f32⟩
  | .local _ .vmem, ⟨4, _⟩ => ⟨S2x256x512, .bf16⟩
  | .local _ .vmem, ⟨5, _⟩ => ⟨S512x512, .f32⟩
  | .local _ .vmem, ⟨6, _⟩ => ⟨S2x256x512, .bf16⟩
  | .local _ .vmem, ⟨7, _⟩ => ⟨S2x256x512, .bf16⟩
  | .local _ .vmem, ⟨8, _⟩ => ⟨S2x256x512, .bf16⟩
  | .local _ .vmem, ⟨9, _⟩ => ⟨S3x1x8, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_cst : Ref sig .tc := ⟨.hbm, 10, rfl⟩
abbrev main_call0_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v10 : BitVec 32 := Scalar.addi v2 c1_i32_4
  let c4_i32_5 : BitVec 32 := 4#32
  let v11 : BitVec 32 := Scalar.remsi v10 c4_i32_5
  let c1_i32_7 : BitVec 32 := 1#32
  let v12 : BitVec 32 := Scalar.muli v11 c1_i32_7
  let v13 : BitVec 32 := Scalar.addi c0_i32 v12
  v13.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_8 : BitVec 32 := 2#32
  let v14 : BitVec 32 := Scalar.addi v2 c2_i32_8
  let c4_i32_9 : BitVec 32 := 4#32
  let v15 : BitVec 32 := Scalar.remsi v14 c4_i32_9
  let c1_i32_11 : BitVec 32 := 1#32
  let v16 : BitVec 32 := Scalar.muli v15 c1_i32_11
  let v17 : BitVec 32 := Scalar.addi c0_i32_12 v16
  v17.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_13 : BitVec 32 := 3#32
  let v18 : BitVec 32 := Scalar.addi v2 c3_i32_13
  let c4_i32_14 : BitVec 32 := 4#32
  let v19 : BitVec 32 := Scalar.remsi v18 c4_i32_14
  let c1_i32_16 : BitVec 32 := 1#32
  let v20 : BitVec 32 := Scalar.muli v19 c1_i32_16
  let v21 : BitVec 32 := Scalar.addi c0_i32_17 v20
  v21.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v22 : BitVec 32 := Scalar.addi v2 c1_i32_19
  let c4_i32_20 : BitVec 32 := 4#32
  let v23 : BitVec 32 := Scalar.remsi v22 c4_i32_20
  let c1_i32_24 : BitVec 32 := 1#32
  let v24 : BitVec 32 := Scalar.muli v23 c1_i32_24
  let v25 : BitVec 32 := Scalar.addi c0_i32_25 v24
  v25.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_28 : BitVec 32 := 2#32
  let v32 : BitVec 32 := Scalar.addi v2 c2_i32_28
  let c4_i32_29 : BitVec 32 := 4#32
  let v33 : BitVec 32 := Scalar.remsi v32 c4_i32_29
  let c1_i32_33 : BitVec 32 := 1#32
  let v34 : BitVec 32 := Scalar.muli v33 c1_i32_33
  let v35 : BitVec 32 := Scalar.addi c0_i32_34 v34
  v35.toNat
def k0_dev6 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_37 : BitVec 32 := 3#32
  let v42 : BitVec 32 := Scalar.addi v2 c3_i32_37
  let c4_i32_38 : BitVec 32 := 4#32
  let v43 : BitVec 32 := Scalar.remsi v42 c4_i32_38
  let c1_i32_42 : BitVec 32 := 1#32
  let v44 : BitVec 32 := Scalar.muli v43 c1_i32_42
  let v45 : BitVec 32 := Scalar.addi c0_i32_43 v44
  v45.toNat
def k0_dev7 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_50 : BitVec 32 := 1#32
  let v52 : BitVec 32 := Scalar.muli v4 c1_i32_50
  let v53 : BitVec 32 := Scalar.addi c0_i32_51 v52
  v53.toNat
def k0_dev8 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_60 : BitVec 32 := 1#32
  let v62 : BitVec 32 := Scalar.muli v4 c1_i32_60
  let v63 : BitVec 32 := Scalar.addi c0_i32_61 v62
  v63.toNat
def k0_dev9 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_70 : BitVec 32 := 1#32
  let v72 : BitVec 32 := Scalar.muli v6 c1_i32_70
  let v73 : BitVec 32 := Scalar.addi c0_i32_71 v72
  v73.toNat
def k0_dev10 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_80 : BitVec 32 := 1#32
  let v82 : BitVec 32 := Scalar.muli v6 c1_i32_80
  let v83 : BitVec 32 := Scalar.addi c0_i32_81 v82
  v83.toNat
def k0_dev11 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_183 : BitVec 32 := 1#32
  let v205 : BitVec 32 := Scalar.muli v4 c1_i32_183
  let v206 : BitVec 32 := Scalar.addi c0_i32_184 v205
  v206.toNat
def k0_dev12 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_211 : BitVec 32 := 1#32
  let v229 : BitVec 32 := Scalar.muli v6 c1_i32_211
  let v230 : BitVec 32 := Scalar.addi c0_i32_212 v229
  v230.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x256 : Shape := ⟨2, ![2048, 256]⟩
abbrev S256x8 : Shape := ⟨2, ![256, 8]⟩
abbrev S2048x1 : Shape := ⟨2, ![2048, 1]⟩
abbrev S8x256x512 : Shape := ⟨3, ![8, 256, 512]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 128
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x8, .f32⟩
  | .hbm, ⟨2, _⟩ => ⟨S2048x1, .i32⟩
  | .hbm, ⟨3, _⟩ => ⟨S8x256x512, .f32⟩
  | .hbm, ⟨4, _⟩ => ⟨S2048, .i32⟩
  | .hbm, ⟨5, _⟩ => ⟨S1x2048, .i32⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2048x2048, .i1⟩
  | .hbm, ⟨15, _⟩ => ⟨S2048x2048, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .i1⟩
  | .hbm, ⟨22, _⟩ => ⟨S_, .f32⟩
  | .hbm, ⟨23, _⟩ => ⟨S2048x512, .f32⟩
  | .hbm, ⟨24, _⟩ => ⟨S_, .i32⟩
  | .hbm, ⟨25, _⟩ => ⟨S2048x1, .i32⟩
  | .hbm, ⟨26, _⟩ => ⟨S2048x1, .i1⟩
  | .hbm, ⟨27, _⟩ => ⟨S2048x1, .i1⟩
  | .hbm, ⟨28, _⟩ => ⟨S1x256x512, .f32⟩
  | .hbm, ⟨29, _⟩ => ⟨S256x512, .f32⟩
  | .hbm, ⟨30, _⟩ => ⟨S2048x512, .f32⟩
  | .hbm, ⟨31, _⟩ => ⟨S_, .f32⟩
  | .hbm, ⟨32, _⟩ => ⟨S_, .f32⟩
  | .hbm, ⟨33, _⟩ => ⟨S2048x512, .i1⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .i32⟩
  | .hbm, ⟨38, _⟩ => ⟨S2048x1, .i32⟩
  | .hbm, ⟨39, _⟩ => ⟨S2048x1, .i1⟩
  | .hbm, ⟨40, _⟩ => ⟨S2048x1, .i1⟩
  | .hbm, ⟨41, _⟩ => ⟨S1x256x512, .f32⟩
  | .hbm, ⟨42, _⟩ => ⟨S256x512, .f32⟩
  | .hbm, ⟨43, _⟩ => ⟨S2048x512, .f32⟩
  | .hbm, ⟨44, _⟩ => ⟨S_, .f32⟩
  | .hbm, ⟨45, _⟩ => ⟨S_, .f32⟩
  | .hbm, ⟨46, _⟩ => ⟨S2048x512, .i1⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S_, .i32⟩
  | .hbm, ⟨51, _⟩ => ⟨S2048x1, .i32⟩
  | .hbm, ⟨52, _⟩ => ⟨S2048x1, .i1⟩
  | .hbm, ⟨53, _⟩ => ⟨S2048x1, .i1⟩
  | .hbm, ⟨54, _⟩ => ⟨S1x256x512, .f32⟩
  | .hbm, ⟨55, _⟩ => ⟨S256x512, .f32⟩
  | .hbm, ⟨56, _⟩ => ⟨S2048x512, .f32⟩
  | .hbm, ⟨57, _⟩ => ⟨S_, .f32⟩
  | .hbm, ⟨58, _⟩ => ⟨S_, .f32⟩
  | .hbm, ⟨59, _⟩ => ⟨S2048x512, .i1⟩
  | .hbm, ⟨60, _⟩ => ⟨S2048x512, .f32⟩
  | .hbm, ⟨61, _⟩ => ⟨S2048x512, .f32⟩
  | .hbm, ⟨62, _⟩ => ⟨S2048x512, .f32⟩
  | .hbm, ⟨63, _⟩ => ⟨S_, .i32⟩
  | .hbm, ⟨64, _⟩ => ⟨S2048x1, .i32⟩
  | .hbm, ⟨65, _⟩ => ⟨S2048x1, .i1⟩
  | .hbm, ⟨66, _⟩ => ⟨S2048x1, .i1⟩
  | .hbm, ⟨67, _⟩ => ⟨S1x256x512, .f32⟩
  | .hbm, ⟨68, _⟩ => ⟨S256x512, .f32⟩
  | .hbm, ⟨69, _⟩ => ⟨S2048x512, .f32⟩
  | .hbm, ⟨70, _⟩ => ⟨S_, .f32⟩
  | .hbm, ⟨71, _⟩ => ⟨S_, .f32⟩
  | .hbm, ⟨72, _⟩ => ⟨S2048x512, .i1⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S_, .i32⟩
  | .hbm, ⟨77, _⟩ => ⟨S2048x1, .i32⟩
  | .hbm, ⟨78, _⟩ => ⟨S2048x1, .i1⟩
  | .hbm, ⟨79, _⟩ => ⟨S2048x1, .i1⟩
  | .hbm, ⟨80, _⟩ => ⟨S1x256x512, .f32⟩
  | .hbm, ⟨81, _⟩ => ⟨S256x512, .f32⟩
  | .hbm, ⟨82, _⟩ => ⟨S2048x512, .f32⟩
  | .hbm, ⟨83, _⟩ => ⟨S_, .f32⟩
  | .hbm, ⟨84, _⟩ => ⟨S_, .f32⟩
  | .hbm, ⟨85, _⟩ => ⟨S2048x512, .i1⟩
  | .hbm, ⟨86, _⟩ => ⟨S2048x512, .f32⟩
  | .hbm, ⟨87, _⟩ => ⟨S2048x512, .f32⟩
  | .hbm, ⟨88, _⟩ => ⟨S2048x512, .f32⟩
  | .hbm, ⟨89, _⟩ => ⟨S_, .i32⟩
  | .hbm, ⟨90, _⟩ => ⟨S2048x1, .i32⟩
  | .hbm, ⟨91, _⟩ => ⟨S2048x1, .i1⟩
  | .hbm, ⟨92, _⟩ => ⟨S2048x1, .i1⟩
  | .hbm, ⟨93, _⟩ => ⟨S1x256x512, .f32⟩
  | .hbm, ⟨94, _⟩ => ⟨S256x512, .f32⟩
  | .hbm, ⟨95, _⟩ => ⟨S2048x512, .f32⟩
  | .hbm, ⟨96, _⟩ => ⟨S_, .f32⟩
  | .hbm, ⟨97, _⟩ => ⟨S_, .f32⟩
  | .hbm, ⟨98, _⟩ => ⟨S2048x512, .i1⟩
  | .hbm, ⟨99, _⟩ => ⟨S2048x512, .f32⟩
  | .hbm, ⟨100, _⟩ => ⟨S2048x512, .f32⟩
  | .hbm, ⟨101, _⟩ => ⟨S2048x512, .f32⟩
  | .hbm, ⟨102, _⟩ => ⟨S_, .i32⟩
  | .hbm, ⟨103, _⟩ => ⟨S2048x1, .i32⟩
  | .hbm, ⟨104, _⟩ => ⟨S2048x1, .i1⟩
  | .hbm, ⟨105, _⟩ => ⟨S2048x1, .i1⟩
  | .hbm, ⟨106, _⟩ => ⟨S1x256x512, .f32⟩
  | .hbm, ⟨107, _⟩ => ⟨S256x512, .f32⟩
  | .hbm, ⟨108, _⟩ => ⟨S2048x512, .f32⟩
  | .hbm, ⟨109, _⟩ => ⟨S_, .f32⟩
  | .hbm, ⟨110, _⟩ => ⟨S_, .f32⟩
  | .hbm, ⟨111, _⟩ => ⟨S2048x512, .i1⟩
  | .hbm, ⟨112, _⟩ => ⟨S2048x512, .f32⟩
  | .hbm, ⟨113, _⟩ => ⟨S2048x512, .f32⟩
  | .hbm, ⟨114, _⟩ => ⟨S2048x512, .f32⟩
  | .hbm, ⟨115, _⟩ => ⟨S_, .i32⟩
  | .hbm, ⟨116, _⟩ => ⟨S2048x1, .i32⟩
  | .hbm, ⟨117, _⟩ => ⟨S2048x1, .i1⟩
  | .hbm, ⟨118, _⟩ => ⟨S2048x1, .i1⟩
  | .hbm, ⟨119, _⟩ => ⟨S1x256x512, .f32⟩
  | .hbm, ⟨120, _⟩ => ⟨S256x512, .f32⟩
  | .hbm, ⟨121, _⟩ => ⟨S2048x512, .f32⟩
  | .hbm, ⟨122, _⟩ => ⟨S_, .f32⟩
  | .hbm, ⟨123, _⟩ => ⟨S_, .f32⟩
  | .hbm, ⟨124, _⟩ => ⟨S2048x512, .i1⟩
  | .hbm, ⟨125, _⟩ => ⟨S2048x512, .f32⟩
  | .hbm, ⟨126, _⟩ => ⟨S2048x512, .f32⟩
  | .hbm, ⟨127, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v55 : Ref sig .tc := ⟨.hbm, 87, rfl⟩
abbrev main_v56 : Ref sig .tc := ⟨.hbm, 88, rfl⟩
abbrev main_c_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_v63 : Ref sig .tc := ⟨.hbm, 100, rfl⟩
abbrev main_v64 : Ref sig .tc := ⟨.hbm, 101, rfl⟩
abbrev main_c_13 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_14 : Ref sig .tc := ⟨.hbm, 109, rfl⟩
abbrev main_call6_v0 : Ref sig .tc := ⟨.hbm, 110, rfl⟩
abbrev main_call6_v1 : Ref sig .tc := ⟨.hbm, 111, rfl⟩
abbrev main_call6_v2 : Ref sig .tc := ⟨.hbm, 112, rfl⟩
abbrev main_v71 : Ref sig .tc := ⟨.hbm, 113, rfl⟩
abbrev main_v72 : Ref sig .tc := ⟨.hbm, 114, rfl⟩
abbrev main_c_15 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_16 : Ref sig .tc := ⟨.hbm, 122, rfl⟩
abbrev main_call7_v0 : Ref sig .tc := ⟨.hbm, 123, rfl⟩
abbrev main_call7_v1 : Ref sig .tc := ⟨.hbm, 124, rfl⟩
abbrev main_call7_v2 : Ref sig .tc := ⟨.hbm, 125, rfl⟩
abbrev main_v79 : Ref sig .tc := ⟨.hbm, 126, rfl⟩
abbrev main_v80 : Ref sig .tc := ⟨.hbm, 127, rfl⟩

abbrev nD : Nat := 1
abbrev τ : Topo := Topo.v7x

variable {F : FTy → Type} [FloatOps F]
-- ==== Proof.Protocol.lean ====
/-
The protocol of the four devices: which semaphore is signalled by whom, what each arrival hands over, what every
device still owes at each moment, and in which order the waits may be made.

Every device meets the other three at one barrier semaphore, sends its row of expert counts to each of them, and
sends its two expert weight blocks around: block 0 and block 1 to the right and to the left neighbour, and each of
the two received blocks one step further, so that the opposite device gets them in two hops.  A semaphore is used
once, so there is one round.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := Rounds.URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices around the ring -/

/-- The device `n` places to the right. -/
def sh (n : ℕ) (c : Dev nD) : Dev nD := ⟨(c.val + n) % 4, Nat.mod_lt _ (by decide)⟩

theorem sh13 (c : Dev nD) : sh 1 (sh 3 c) = c := by revert c; decide
theorem sh31 (c : Dev nD) : sh 3 (sh 1 c) = c := by revert c; decide
theorem sh22 (c : Dev nD) : sh 2 (sh 2 c) = c := by revert c; decide
theorem sh11 (c : Dev nD) : sh 1 (sh 1 c) = sh 2 c := by revert c; decide
theorem sh33 (c : Dev nD) : sh 3 (sh 3 c) = sh 2 c := by revert c; decide
theorem sh21 (c : Dev nD) : sh 2 (sh 1 c) = sh 3 c := by revert c; decide
theorem sh23 (c : Dev nD) : sh 2 (sh 3 c) = sh 1 c := by revert c; decide
theorem sh32 (c : Dev nD) : sh 3 (sh 2 c) = sh 1 c := by revert c; decide
theorem sh12 (c : Dev nD) : sh 1 (sh 2 c) = sh 3 c := by revert c; decide

theorem dev1 (c : Dev nD) : (⟨k0_dev1 c, k0_dev1_lt c⟩ : Dev nD) = sh 1 c := Fin.ext (k0_dev1_eq c)
theorem dev2 (c : Dev nD) : (⟨k0_dev2 c, k0_dev2_lt c⟩ : Dev nD) = sh 2 c := Fin.ext (k0_dev2_eq c)
theorem dev3 (c : Dev nD) : (⟨k0_dev3 c, k0_dev3_lt c⟩ : Dev nD) = sh 3 c := Fin.ext (k0_dev3_eq c)
theorem dev4 (c : Dev nD) : (⟨k0_dev4 c, k0_dev4_lt c⟩ : Dev nD) = sh 1 c := Fin.ext (k0_dev4_eq c)
theorem dev5 (c : Dev nD) : (⟨k0_dev5 c, k0_dev5_lt c⟩ : Dev nD) = sh 2 c := Fin.ext (k0_dev5_eq c)
theorem dev6 (c : Dev nD) : (⟨k0_dev6 c, k0_dev6_lt c⟩ : Dev nD) = sh 3 c := Fin.ext (k0_dev6_eq c)
theorem dev7 (c : Dev nD) : (⟨k0_dev7 c, k0_dev7_lt c⟩ : Dev nD) = sh 1 c := Fin.ext (k0_dev7_eq c)
theorem dev8 (c : Dev nD) : (⟨k0_dev8 c, k0_dev8_lt c⟩ : Dev nD) = sh 1 c := Fin.ext (k0_dev8_eq c)
theorem dev9 (c : Dev nD) : (⟨k0_dev9 c, k0_dev9_lt c⟩ : Dev nD) = sh 3 c := Fin.ext (k0_dev9_eq c)
theorem dev10 (c : Dev nD) : (⟨k0_dev10 c, k0_dev10_lt c⟩ : Dev nD) = sh 3 c := Fin.ext (k0_dev10_eq c)
theorem dev11 (c : Dev nD) : (⟨k0_dev11 c, k0_dev11_lt c⟩ : Dev nD) = sh 1 c := Fin.ext (k0_dev11_eq c)
theorem dev12 (c : Dev nD) : (⟨k0_dev12 c, k0_dev12_lt c⟩ : Dev nD) = sh 3 c := Fin.ext (k0_dev12_eq c)

/-! ## Cells -/

/-- The barrier semaphore. -/
abbrev barS : Sem sig := (SemArray.scalar (sig.barrier 0 rfl) : Sems sig S_).sem

/-- The kernel's own copy semaphores: 0–5 a weight copy has left, 6–11 a weight copy has arrived, 12–14 a row of
    counts has left, 15–17 a row of counts has arrived. -/
abbrev osem (k : Fin 18) : SemLoc sig := .dma ⟨6 + k.val, Nat.add_lt_add_left k.isLt 6⟩

abbrev barCell (c : Dev nD) : GSem nD τ sig := ((c : Thread nD τ), .reg barS)
abbrev ocell (c : Dev nD) (k : Fin 18) : GSem nD τ sig := ((c : Thread nD τ), osem k)

/-- The number of a copy semaphore of the kernel, if it is one. -/
def dec : SemLoc sig → Option (Fin 18)
  | .reg _ => none
  | .dma s => if h : 6 ≤ s.val ∧ s.val < 24 then some ⟨s.val - 6, by omega⟩ else none

theorem dec_osem (k : Fin 18) : dec (osem k) = some k := by
  unfold dec osem
  have := k.isLt
  simp only
  rw [dif_pos ⟨by omega, by omega⟩]
  exact congrArg some (Fin.ext (by simp))

theorem osem_inj {k k' : Fin 18} (h : osem k = osem k') : k = k' := by
  have := congrArg dec h; rw [dec_osem, dec_osem] at this; exact Option.some.inj this

/-! ## Places -/

/-- Slot `i` of a buffer of two weight blocks. -/
abbrev r0 : Rect S2x256x512 := Rect.unit (s := S2x256x512) ![0, 0, 0] S1x256x512.size inb_S2x256x512_S1x256x512_0_0_0
abbrev r1 : Rect S2x256x512 := Rect.unit (s := S2x256x512) ![1, 0, 0] S1x256x512.size inb_S2x256x512_S1x256x512_1_0_0
abbrev H0 : Finset S2x256x512.Idx := r0.set
abbrev H1 : Finset S2x256x512.Idx := r1.set

/-- Slot `d` of the buffer of received counts. -/
abbrev s0 : Rect S3x1x8 := Rect.unit (s := S3x1x8) ![0, 0, 0] S1x1x8.size inb_S3x1x8_S1x1x8_0_0_0
abbrev s1 : Rect S3x1x8 := Rect.unit (s := S3x1x8) ![1, 0, 0] S1x1x8.size inb_S3x1x8_S1x1x8_1_0_0
abbrev s2 : Rect S3x1x8 := Rect.unit (s := S3x1x8) ![2, 0, 0] S1x1x8.size inb_S3x1x8_S1x1x8_2_0_0
abbrev C0 : Finset S3x1x8.Idx := s0.set
abbrev C1 : Finset S3x1x8.Idx := s1.set
abbrev C2 : Finset S3x1x8.Idx := s2.set

abbrev M0 : Memref sig .tc .vmem S512x256 .bf16 := Memref.whole cc0_stg0_0
abbrev M1 : Memref sig .tc .vmem S512x1 .i32 := Memref.whole cc0_stg1_0
abbrev M2 : Memref sig .tc .vmem S512x1 .f32 := Memref.whole cc0_stg2_0
abbrev M3 : Memref sig .tc .vmem S1x8 .f32 := Memref.whole cc0_stg3_0
abbrev M4 : Memref sig .tc .vmem S2x256x512 .bf16 := Memref.whole cc0_stg4_0
abbrev M5 : Memref sig .tc .vmem S512x512 .f32 := Memref.whole cc0_stg5_0
abbrev M6 : Memref sig .tc .vmem S2x256x512 .bf16 := Memref.whole cc0_scratch0
abbrev M7 : Memref sig .tc .vmem S2x256x512 .bf16 := Memref.whole cc0_scratch1
abbrev M8 : Memref sig .tc .vmem S2x256x512 .bf16 := Memref.whole cc0_scratch2
abbrev M9 : Memref sig .tc .vmem S3x1x8 .f32 := Memref.whole cc0_scratch3

/-- A slot of a weight buffer as a block of its own. -/
abbrev hv0 (M : Memref sig .tc .vmem S2x256x512 .bf16) : Memref sig .tc .vmem S256x512 .bf16 :=
  (M.slice r0 (fun _ => rfl)).squeeze S256x512 squeezes_S1x256x512_S256x512
abbrev hv1 (M : Memref sig .tc .vmem S2x256x512 .bf16) : Memref sig .tc .vmem S256x512 .bf16 :=
  (M.slice r1 (fun _ => rfl)).squeeze S256x512 squeezes_S1x256x512_S256x512
/-- A slot of the buffer of received counts as a row. -/
abbrev cv0 : Memref sig .tc .vmem S1x8 .f32 := (M9.slice s0 (fun _ => rfl)).squeeze S1x8 squeezes_S1x1x8_S1x8
abbrev cv1 : Memref sig .tc .vmem S1x8 .f32 := (M9.slice s1 (fun _ => rfl)).squeeze S1x8 squeezes_S1x1x8_S1x8
abbrev cv2 : Memref sig .tc .vmem S1x8 .f32 := (M9.slice s2 (fun _ => rfl)).squeeze S1x8 squeezes_S1x1x8_S1x8

/-- The credit of one weight copy and of one copy of counts. -/
def Nw : ℕ := (hv0 M4).view.dmaCredit
def Nc : ℕ := (M3 : Memref sig .tc .vmem S1x8 .f32).view.dmaCredit
theorem Nw_pos : 0 < Nw := View.dmaCredit_pos _ (by decide)
theorem Nc_pos : 0 < Nc := View.dmaCredit_pos _ (by decide)

/-! ## What the devices hold on entering the kernel -/

/-- One device's inputs of the kernel: its tokens, their experts, each token's rank among the device's tokens of
    the same expert, the device's counts of tokens per expert, and its two expert weight blocks. -/
structure Ins (F : FTy → Type) where
  x : S512x256.Idx → Elt F .bf16
  rt : S512x1.Idx → Elt F .i32
  ex : S512x1.Idx → Elt F .f32
  cn : S1x8.Idx → Elt F .f32
  ew : S2x256x512.Idx → Elt F .bf16

/-- A row of counts written in every slot. -/
def slots (f : S1x8.Idx → Elt F .f32) : S3x1x8.Idx → Elt F .f32 := fun i => f (fun | 0 => ⟨0, by decide⟩ | 1 => i 2)

abbrev pts (c : Dev nD) (b : Ref sig .tc) (I : Finset b.ty.Idx) (q : PosShare TreeShare) (f : b.ty.Contents (Elt F)) : sProp 𝕄 :=
  ((c : Thread nD τ).loc b) ↦[I]{q} f

abbrev qL : PosShare TreeShare := fullShare.left
abbrev qRL : PosShare TreeShare := fullShare.right.left
abbrev qRR : PosShare TreeShare := fullShare.right.right

variable (A : Dev nD → Ins F)

/-! ## What an arrival hands over -/

/-- What the arrival on copy semaphore `k` of device `c` hands `c`: for a copy that has left, the lent share of its
    source; for one that has arrived, the place filled, with what it holds. -/
def pay (c : Dev nD) : Fin 18 → sProp 𝕄
  | 0 => pts c cc0_stg4_0 H0 qL (A c).ew
  | 1 => pts c cc0_stg4_0 H1 qL (A c).ew
  | 2 => pts c cc0_stg4_0 H1 qRL (A c).ew
  | 3 => pts c cc0_stg4_0 H0 qRL (A c).ew
  | 4 => pts c cc0_scratch0 H0 qL (A (sh 3 c)).ew
  | 5 => pts c cc0_scratch1 H1 qL (A (sh 1 c)).ew
  | 6 => pts c cc0_scratch0 H0 fullShare (A (sh 3 c)).ew
  | 7 => pts c cc0_scratch0 H1 fullShare (A (sh 3 c)).ew
  | 8 => pts c cc0_scratch1 H1 fullShare (A (sh 1 c)).ew
  | 9 => pts c cc0_scratch1 H0 fullShare (A (sh 1 c)).ew
  | 10 => pts c cc0_scratch2 H0 fullShare (A (sh 2 c)).ew
  | 11 => pts c cc0_scratch2 H1 fullShare (A (sh 2 c)).ew
  | 12 => pts c cc0_stg3_0 Finset.univ qL (A c).cn
  | 13 => pts c cc0_stg3_0 Finset.univ qRL (A c).cn
  | 14 => pts c cc0_stg3_0 Finset.univ qRR (A c).cn
  | 15 => pts c cc0_scratch3 C0 fullShare (slots (A (sh 3 c)).cn)
  | 16 => pts c cc0_scratch3 C1 fullShare (slots (A (sh 2 c)).cn)
  | _ => pts c cc0_scratch3 C2 fullShare (slots (A (sh 1 c)).cn)

/-- A place at contents not chosen. -/
abbrev some' (c : Dev nD) (b : Ref sig .tc) (I : Finset b.ty.Idx) : sProp 𝕄 :=
  iprop(∃ f : b.ty.Contents (Elt F), pts c b I fullShare f)

abbrev rch (c : Dev nD) (k : Fin 18) : sProp 𝕄 := reached ER (ocell c k) 0

/-- What device `c` hands with its signal number `d` at the barrier: to the right neighbour the places that
    neighbour fills from the right side, to the opposite device one slot of counts, to the left neighbour the rest. -/
def give (c : Dev nD) : Fin 3 → sProp 𝕄
  | 0 => iprop((some' c cc0_scratch1 H1 ∗ some' c cc0_scratch1 H0 ∗ some' c cc0_scratch2 H1 ∗ some' c cc0_scratch3 C2)
          ∗ rch c 8 ∗ rch c 9 ∗ rch c 11 ∗ rch c 17)
  | 1 => iprop(some' c cc0_scratch3 C1 ∗ rch c 16)
  | 2 => iprop((some' c cc0_scratch0 H0 ∗ some' c cc0_scratch0 H1 ∗ some' c cc0_scratch2 H0 ∗ some' c cc0_scratch3 C0)
          ∗ rch c 6 ∗ rch c 7 ∗ rch c 10 ∗ rch c 15)

/-- The barrier payload of duty `d` on device `p`, paid by the device `d + 1` places to its left. -/
def barPay (p : Dev nD) (d : Fin 3) : sProp 𝕄 := give (sh (3 - d.val) p) d

instance pay_storable (c : Dev nD) (k : Fin 18) : BI.Storable (upEmb : UEmb _ 𝕄) (pay A c k) := by
  unfold pay; split <;> infer_instance

instance give_storable (c : Dev nD) (d : Fin 3) : BI.Storable (upEmb : UEmb _ 𝕄) (give (F := F) c d) := by
  unfold give; split <;> infer_instance

/-! ## The schedule -/

/-- The credit of copy semaphore `k`. -/
def amt (k : Fin 18) : ℕ := if k.val < 12 then Nw else Nc
theorem amt_pos (k : Fin 18) : 0 < amt k := by unfold amt; split; exacts [Nw_pos, Nc_pos]

/-- One round: three duties of one unit at each barrier, one duty on each copy semaphore. -/
def Rd : Rounds.Schedule (GSem nD τ sig) (Fin 3) 𝕄 where
  duties g r := if r = 0 ∧ g.1.2 = .tc then
      (if g.2 = .reg barS then Finset.univ else if (dec g.2).isSome then {0} else ∅) else ∅
  unitless _ := False
  amount g _ _ := match dec g.2 with | none => 1 | some k => amt k
  payload g _ d := if g.2 = .reg barS then barPay g.1.1 d else match dec g.2 with | none => iprop(emp) | some k => pay A g.1.1 k
  amount_pos g _ _ _ := by
    cases dec g.2 with
    | none => exact Nat.one_pos
    | some k => exact amt_pos k

instance Rd_storable (g : GSem nD τ sig) (r : ℕ) (d : Fin 3) : BI.Storable (upEmb : UEmb _ 𝕄) ((Rd A).payload g r d) := by
  show BI.Storable upEmb (if g.2 = .reg barS then barPay g.1.1 d else match dec g.2 with | none => iprop(emp) | some k => pay A g.1.1 k)
  split
  · unfold barPay; infer_instance
  · split <;> infer_instance

section Sched
variable (c : Dev nD) (k : Fin 18)

theorem osem_ne_bar : osem k ≠ .reg barS := fun h => by cases h

theorem duties_bar : (Rd A).duties (barCell c) 0 = Finset.univ := by
  dsimp only [Rd]; rw [if_pos ⟨rfl, rfl⟩, if_pos rfl]
theorem duties_own : (Rd A).duties (ocell c k) 0 = {0} := by
  dsimp only [Rd]; rw [if_pos ⟨rfl, rfl⟩, if_neg (osem_ne_bar k), dec_osem]; rfl
theorem duties_later (g : GSem nD τ sig) : ∀ r, 1 ≤ r → (Rd A).duties g r = ∅ :=
  fun r hr => by dsimp only [Rd]; exact if_neg fun h => by omega

theorem amount_bar (d : Fin 3) : (Rd A).amount (barCell c) 0 d = 1 := rfl
theorem amount_own (d : Fin 3) : (Rd A).amount (ocell c k) 0 d = amt k := by
  dsimp only [Rd]; rw [dec_osem]

theorem expect_bar : (Rd A).expect (barCell c) 0 = 3 := by
  unfold Schedule.expect Schedule.amountOf; rw [duties_bar, Finset.sum_congr rfl fun d _ => amount_bar A c d]; rfl
theorem expect_own : (Rd A).expect (ocell c k) 0 = amt k := by
  unfold Schedule.expect Schedule.amountOf; rw [duties_own, Finset.sum_singleton, amount_own]

theorem payload_bar (d : Fin 3) : (Rd A).payload (barCell c) 0 d = barPay c d := by dsimp only [Rd]; exact if_pos rfl
theorem payload_own (d : Fin 3) : (Rd A).payload (ocell c k) 0 d = pay A c k := by
  dsimp only [Rd]; rw [if_neg (osem_ne_bar k), dec_osem]

theorem rest_bar : bigSep ((Rd A).duties (barCell c) 0 \ ∅) (fun d => (Rd A).payload (barCell c) 0 d)
    = iprop(give (sh 3 c) 0 ∗ give (sh 2 c) 1 ∗ give (sh 1 c) 2) := by
  rw [Finset.sdiff_empty, duties_bar, bigSep_congr fun d _ => payload_bar A c d]
  exact bigSep_univ_eq_bigSepL [(0 : Fin 3), 1, 2] (by decide) (by decide) (fun d => barPay (F := F) c d)
theorem rest_own : bigSep ((Rd A).duties (ocell c k) 0 \ ∅) (fun d => (Rd A).payload (ocell c k) 0 d) = pay A c k := by
  rw [Finset.sdiff_empty, duties_own, bigSep_singleton, payload_own]

end Sched

/-! ## What a device owes, in the reverse of the order in which it pays -/

/-- The cell paid with the `n`-th payment from the end: the two forwarded blocks, the four weight copies, the three
    rows of counts, the three barrier signals. -/
def evc (c : Dev nD) : ℕ → GSem nD τ sig
  | 0 => ocell (sh 3 c) 11
  | 1 => ocell (sh 1 c) 10
  | 2 => ocell (sh 3 c) 9
  | 3 => ocell (sh 3 c) 8
  | 4 => ocell (sh 1 c) 7
  | 5 => ocell (sh 1 c) 6
  | 6 => ocell (sh 3 c) 17
  | 7 => ocell (sh 2 c) 16
  | 8 => ocell (sh 1 c) 15
  | 9 => barCell (sh 3 c)
  | 10 => barCell (sh 2 c)
  | _ => barCell (sh 1 c)
/-- And its amount. -/
def eva (n : ℕ) : ℕ := if n < 6 then Nw else if n < 9 then Nc else 1

/-- What device `c` owes when `n` payments are left. -/
def owed (c : Dev nD) : ℕ → CellTallies nD τ sig Unit
  | 0 => 0
  | n + 1 => owed c n + tallyAt (evc c n) () (eva n)

theorem owed_apply (c : Dev nD) (n : ℕ) (g : GSem nD τ sig) (u : Unit) :
    owed c n g u = ∑ i ∈ Finset.range n, if g = evc c i then eva i else 0 := by
  induction n with
  | zero => rfl
  | succ n ih =>
    rw [Finset.sum_range_succ, ← ih]
    show (owed c n + tallyAt (evc c n) () (eva n)) g u = _
    rw [Pi.add_apply, Finsupp.add_apply, tallyAt_apply]
    congr 1
    by_cases h : g = evc c n
    · rw [if_pos ⟨h, rfl⟩, if_pos h]
    · rw [if_neg (fun h' => h h'.1), if_neg h]

theorem owed_pos {c : Dev nD} {n : ℕ} {g : GSem nD τ sig} {u : Unit} (h : 0 < owed c n g u) : ∃ i < n, g = evc c i := by
  rw [owed_apply] at h
  by_contra hn
  refine absurd h (Nat.not_lt.mpr (Nat.le_of_eq (Finset.sum_eq_zero fun i hi => if_neg fun h' => hn ⟨i, Finset.mem_range.mp hi, h'⟩)))

/-! ## Levels: a wait is made only while what is still owed lies at higher levels -/

def L (g : GSem nD τ sig) : Finset Unit := if g.1.2 = .tc then {()} else ∅
/-- The barrier at 1, first arrivals at 2, forwarded blocks at 3, everything else at 0. -/
def lvs (s : SemLoc sig) : ℕ := if s = .reg barS then 1 else
  match dec s with
  | none => 0
  | some k => if k.val < 6 then 0 else if k.val < 10 then 2 else if k.val < 12 then 3 else if k.val < 15 then 0 else 2
def lv (g : GSem nD τ sig) (_ : Unit) : ℕ := lvs g.2
theorem L_of_ne (g : GSem nD τ sig) (h : g.1.2 ≠ .tc) : L g = ∅ := if_neg h
theorem L_tc (c : Dev nD) (sm : SemLoc sig) : L ((c : Thread nD τ), sm) = {()} := if_pos rfl

theorem evc_tc (c : Dev nD) (i : ℕ) : L (evc c i) = {()} := by
  rcases i with _ | _ | _ | _ | _ | _ | _ | _ | _ | _ | _ | _ <;> exact L_tc _ _

/-- The level of the `i`-th payment from the end. -/
def evl (i : ℕ) : ℕ := if i < 2 then 3 else if i < 9 then 2 else 1
theorem evc_lv (c : Dev nD) (i : ℕ) : lv (evc c i) () = evl i := by
  rcases i with _ | _ | _ | _ | _ | _ | _ | _ | _ | _ | _ | _ <;> first | rfl | (show lvs _ = _; unfold evc evl; rfl)

/-- A wait at a level below every payment left is allowed. -/
theorem mayWait (c : Dev nD) (sm : SemLoc sig) (n : ℕ) (h : ∀ i < n, lvs sm < evl i) :
    (levAts L lv : sProp 𝕄) ⊢ MayWait (c : Thread nD τ) sm () (owed c n) := by
  refine MayOwe.of_cut (L := L) (lev := lv) (lvs sm) (fun p hp => by rw [Finset.mem_singleton.mp hp, L_tc]; exact Finset.mem_singleton_self _)
    (fun g u hg => by obtain ⟨i, -, rfl⟩ := owed_pos hg; rw [evc_tc]; exact Finset.mem_singleton_self _)
    (fun p hp => by rw [Finset.mem_singleton.mp hp]; exact le_refl _)
    (fun g u hg => by obtain ⟨i, hi, rfl⟩ := owed_pos hg; cases u; rw [evc_lv]; exact h i hi)

end Cert.Moe
-- ==== Proof.Steps.lean ====
/-
The steps of one device's run: what a slot's view covers, what a copy leaves at its destination, how a buffer is
cut into slots and shares, and one rule each for a copy sent and an arrival awaited.
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots -/

theorem mem_H0 (i : S2x256x512.Idx) : i ∈ H0 ↔ (i 0).val = 0 := by
  rw [Rect.mem_set_unit]; constructor
  · intro h; have := h 0; simp at this; omega
  · intro h a; have := (i a).isLt; fin_cases a <;> simp at * <;> omega
theorem mem_H1 (i : S2x256x512.Idx) : i ∈ H1 ↔ (i 0).val = 1 := by
  rw [Rect.mem_set_unit]; constructor
  · intro h; have := h 0; simp at this; omega
  · intro h a; have := (i a).isLt; fin_cases a <;> simp at * <;> omega
theorem H_univ : (Finset.univ : Finset S2x256x512.Idx) = H0 ∪ H1 := by
  ext i; rw [Finset.mem_union, mem_H0, mem_H1]
  have : (i 0).val < 2 := (i 0).isLt
  exact ⟨fun _ => by omega, fun _ => Finset.mem_univ _⟩
theorem H_disj : Disjoint H0 H1 := by
  rw [Finset.disjoint_left]; intro i; rw [mem_H0, mem_H1]; omega

theorem mem_C0 (i : S3x1x8.Idx) : i ∈ C0 ↔ (i 0).val = 0 := by
  rw [Rect.mem_set_unit]; constructor
  · intro h; have := h 0; simp at this; omega
  · intro h a; have := (i a).isLt; fin_cases a <;> simp at * <;> omega
theorem mem_C1 (i : S3x1x8.Idx) : i ∈ C1 ↔ (i 0).val = 1 := by
  rw [Rect.mem_set_unit]; constructor
  · intro h; have := h 0; simp at this; omega
  · intro h a; have := (i a).isLt; fin_cases a <;> simp at * <;> omega
theorem mem_C2 (i : S3x1x8.Idx) : i ∈ C2 ↔ (i 0).val = 2 := by
  rw [Rect.mem_set_unit]; constructor
  · intro h; have := h 0; simp at this; omega
  · intro h a; have := (i a).isLt; fin_cases a <;> simp at * <;> omega
theorem C_univ : (Finset.univ : Finset S3x1x8.Idx) = C0 ∪ (C1 ∪ C2) := by
  ext i; rw [Finset.mem_union, Finset.mem_union, mem_C0, mem_C1, mem_C2]
  have : (i 0).val < 3 := (i 0).isLt
  exact ⟨fun _ => by omega, fun _ => Finset.mem_univ _⟩
theorem C_disj0 : Disjoint C0 (C1 ∪ C2) := by
  rw [Finset.disjoint_left]; intro i; rw [Finset.mem_union, mem_C0, mem_C1, mem_C2]; omega
theorem C_disj1 : Disjoint C1 C2 := by
  rw [Finset.disjoint_left]; intro i; rw [mem_C1, mem_C2]; omega

section Sets
variable (b : Ref sig .tc)
theorem set40 : (hv0 M4).view.set = H0 := (View.set_reshape _ _).trans (View.set_slice_whole _ _)
theorem set41 : (hv1 M4).view.set = H1 := (View.set_reshape _ _).trans (View.set_slice_whole _ _)
theorem set60 : (hv0 M6).view.set = H0 := (View.set_reshape _ _).trans (View.set_slice_whole _ _)
theorem set61 : (hv1 M6).view.set = H1 := (View.set_reshape _ _).trans (View.set_slice_whole _ _)
theorem set70 : (hv0 M7).view.set = H0 := (View.set_reshape _ _).trans (View.set_slice_whole _ _)
theorem set71 : (hv1 M7).view.set = H1 := (View.set_reshape _ _).trans (View.set_slice_whole _ _)
theorem set80 : (hv0 M8).view.set = H0 := (View.set_reshape _ _).trans (View.set_slice_whole _ _)
theorem set81 : (hv1 M8).view.set = H1 := (View.set_reshape _ _).trans (View.set_slice_whole _ _)
theorem setc0 : cv0.view.set = C0 := (View.set_reshape _ _).trans (View.set_slice_whole _ _)
theorem setc1 : cv1.view.set = C1 := (View.set_reshape _ _).trans (View.set_slice_whole _ _)
theorem setc2 : cv2.view.set = C2 := (View.set_reshape _ _).trans (View.set_slice_whole _ _)
theorem set3 : (M3 : Memref sig .tc .vmem S1x8 .f32).view.set = Finset.univ := View.set_whole _
end Sets

/-! ## What a copy leaves -/

section Wr
variable {Val : EltTy → Type}
theorem wr640 (fd fs : S2x256x512.Idx → Val .bf16) (i : S2x256x512.Idx) (hi : i ∈ H0) :
    (hv0 M6).view.write Val fd ((hv0 M4).view.read Val fs) Finset.univ i = fs i := by
  rw [← set60] at hi; obtain ⟨x, -, rfl⟩ := Finset.mem_map.mp hi
  exact View.write_emb_of_mem (v := (hv0 M6).view) fd _ (Finset.mem_univ x)
theorem wr641 (fd fs : S2x256x512.Idx → Val .bf16) (i : S2x256x512.Idx) (hi : i ∈ H1) :
    (hv1 M6).view.write Val fd ((hv1 M4).view.read Val fs) Finset.univ i = fs i := by
  rw [← set61] at hi; obtain ⟨x, -, rfl⟩ := Finset.mem_map.mp hi
  exact View.write_emb_of_mem (v := (hv1 M6).view) fd _ (Finset.mem_univ x)
theorem wr740 (fd fs : S2x256x512.Idx → Val .bf16) (i : S2x256x512.Idx) (hi : i ∈ H0) :
    (hv0 M7).view.write Val fd ((hv0 M4).view.read Val fs) Finset.univ i = fs i := by
  rw [← set70] at hi; obtain ⟨x, -, rfl⟩ := Finset.mem_map.mp hi
  exact View.write_emb_of_mem (v := (hv0 M7).view) fd _ (Finset.mem_univ x)
theorem wr741 (fd fs : S2x256x512.Idx → Val .bf16) (i : S2x256x512.Idx) (hi : i ∈ H1) :
    (hv1 M7).view.write Val fd ((hv1 M4).view.read Val fs) Finset.univ i = fs i := by
  rw [← set71] at hi; obtain ⟨x, -, rfl⟩ := Finset.mem_map.mp hi
  exact View.write_emb_of_mem (v := (hv1 M7).view) fd _ (Finset.mem_univ x)
theorem wr860 (fd fs : S2x256x512.Idx → Val .bf16) (i : S2x256x512.Idx) (hi : i ∈ H0) :
    (hv0 M8).view.write Val fd ((hv0 M6).view.read Val fs) Finset.univ i = fs i := by
  rw [← set80] at hi; obtain ⟨x, -, rfl⟩ := Finset.mem_map.mp hi
  exact View.write_emb_of_mem (v := (hv0 M8).view) fd _ (Finset.mem_univ x)
theorem wr871 (fd fs : S2x256x512.Idx → Val .bf16) (i : S2x256x512.Idx) (hi : i ∈ H1) :
    (hv1 M8).view.write Val fd ((hv1 M7).view.read Val fs) Finset.univ i = fs i := by
  rw [← set81] at hi; obtain ⟨x, -, rfl⟩ := Finset.mem_map.mp hi
  exact View.write_emb_of_mem (v := (hv1 M8).view) fd _ (Finset.mem_univ x)
end Wr

/-- The column of an element of count slot 0 is the element's own. -/
theorem cv0_col (x : S1x8.Idx) : (cv0.view.emb x 2).val = (x 1).val := by
  have h : ∀ a : Fin 1, ∀ b : Fin 8, (cv0.view.emb (fun | 0 => a | 1 => b) 2).val = b.val := by decide
  have := h (x 0) (x 1)
  rwa [show (fun | 0 => x 0 | 1 => x 1 : S1x8.Idx) = x from funext fun a => by fin_cases a <;> rfl] at this
theorem wrc0 (fd : S3x1x8.Idx → Elt F .f32) (fs : S1x8.Idx → Elt F .f32) (i : S3x1x8.Idx) (hi : i ∈ C0) :
    cv0.view.write (Elt F) fd ((M3 : Memref sig .tc .vmem S1x8 .f32).view.read (Elt F) fs) Finset.univ i = slots fs i := by
  rw [← setc0] at hi; obtain ⟨x, -, rfl⟩ := Finset.mem_map.mp hi
  refine (View.write_emb_of_mem (v := cv0.view) fd _ (Finset.mem_univ x)).trans ?_
  show fs x = fs _
  congr 1; funext a; fin_cases a
  · exact Fin.ext (by have h : (x 0).val < 1 := (x 0).isLt; show (x 0).val = 0; omega)
  · exact Fin.ext (cv0_col x).symm
/-- The column of an element of count slot 1 is the element's own. -/
theorem cv1_col (x : S1x8.Idx) : (cv1.view.emb x 2).val = (x 1).val := by
  have h : ∀ a : Fin 1, ∀ b : Fin 8, (cv1.view.emb (fun | 0 => a | 1 => b) 2).val = b.val := by decide
  have := h (x 0) (x 1)
  rwa [show (fun | 0 => x 0 | 1 => x 1 : S1x8.Idx) = x from funext fun a => by fin_cases a <;> rfl] at this
theorem wrc1 (fd : S3x1x8.Idx → Elt F .f32) (fs : S1x8.Idx → Elt F .f32) (i : S3x1x8.Idx) (hi : i ∈ C1) :
    cv1.view.write (Elt F) fd ((M3 : Memref sig .tc .vmem S1x8 .f32).view.read (Elt F) fs) Finset.univ i = slots fs i := by
  rw [← setc1] at hi; obtain ⟨x, -, rfl⟩ := Finset.mem_map.mp hi
  refine (View.write_emb_of_mem (v := cv1.view) fd _ (Finset.mem_univ x)).trans ?_
  show fs x = fs _
  congr 1; funext a; fin_cases a
  · exact Fin.ext (by have h : (x 0).val < 1 := (x 0).isLt; show (x 0).val = 0; omega)
  · exact Fin.ext (cv1_col x).symm
/-- The column of an element of count slot 2 is the element's own. -/
theorem cv2_col (x : S1x8.Idx) : (cv2.view.emb x 2).val = (x 1).val := by
  have h : ∀ a : Fin 1, ∀ b : Fin 8, (cv2.view.emb (fun | 0 => a | 1 => b) 2).val = b.val := by decide
  have := h (x 0) (x 1)
  rwa [show (fun | 0 => x 0 | 1 => x 1 : S1x8.Idx) = x from funext fun a => by fin_cases a <;> rfl] at this
theorem wrc2 (fd : S3x1x8.Idx → Elt F .f32) (fs : S1x8.Idx → Elt F .f32) (i : S3x1x8.Idx) (hi : i ∈ C2) :
    cv2.view.write (Elt F) fd ((M3 : Memref sig .tc .vmem S1x8 .f32).view.read (Elt F) fs) Finset.univ i = slots fs i := by
  rw [← setc2] at hi; obtain ⟨x, -, rfl⟩ := Finset.mem_map.mp hi
  refine (View.write_emb_of_mem (v := cv2.view) fd _ (Finset.mem_univ x)).trans ?_
  show fs x = fs _
  congr 1; funext a; fin_cases a
  · exact Fin.ext (by have h : (x 0).val < 1 := (x 0).isLt; show (x 0).val = 0; omega)
  · exact Fin.ext (cv2_col x).symm

/-! ## Cutting and joining -/

section Cut
variable (c : Dev nD)

theorem thirds (b : Ref sig .tc) (I : Finset b.ty.Idx) (f : b.ty.Contents (Elt F)) :
    (pts c b I fullShare f : sProp 𝕄) ⊣⊢ iprop(pts c b I qL f ∗ pts c b I qRL f ∗ pts c b I qRR f) := by
  refine ⟨?_, ?_⟩
  · iintro H
    ihave H' := (pointsTo_share (I := I) (f := f) (PosShare.mem_left_op_right fullShare)).1 $$ H
    icases H' with ⟨H0, H12⟩
    ihave H' := (pointsTo_share (I := I) (f := f) (PosShare.mem_left_op_right fullShare.right)).1 $$ H12
    icases H' with ⟨H1, H2⟩
    isplitl [H0]; · iexact H0
    isplitl [H1]; · iexact H1
    iexact H2
  · iintro ⟨H0, H1, H2⟩
    iapply (pointsTo_share (I := I) (f := f) (PosShare.mem_left_op_right fullShare)).2
    isplitl [H0]; · iexact H0
    iapply (pointsTo_share (I := I) (f := f) (PosShare.mem_left_op_right fullShare.right)).2
    isplitl [H1]; · iexact H1
    iexact H2

theorem halves4 (q : PosShare TreeShare) (f : S2x256x512.Idx → Elt F .bf16) :
    (pts c cc0_stg4_0 Finset.univ q f : sProp 𝕄) ⊣⊢ iprop(pts c cc0_stg4_0 H0 q f ∗ pts c cc0_stg4_0 H1 q f) := by
  show (pts c cc0_stg4_0 (Finset.univ : Finset S2x256x512.Idx) q f : sProp 𝕄) ⊣⊢ _
  rw [H_univ]; exact pointsTo_union H_disj
theorem halves6 (q : PosShare TreeShare) (f : S2x256x512.Idx → Elt F .bf16) :
    (pts c cc0_scratch0 Finset.univ q f : sProp 𝕄) ⊣⊢ iprop(pts c cc0_scratch0 H0 q f ∗ pts c cc0_scratch0 H1 q f) := by
  show (pts c cc0_scratch0 (Finset.univ : Finset S2x256x512.Idx) q f : sProp 𝕄) ⊣⊢ _
  rw [H_univ]; exact pointsTo_union H_disj
theorem halves7 (q : PosShare TreeShare) (f : S2x256x512.Idx → Elt F .bf16) :
    (pts c cc0_scratch1 Finset.univ q f : sProp 𝕄) ⊣⊢ iprop(pts c cc0_scratch1 H0 q f ∗ pts c cc0_scratch1 H1 q f) := by
  show (pts c cc0_scratch1 (Finset.univ : Finset S2x256x512.Idx) q f : sProp 𝕄) ⊣⊢ _
  rw [H_univ]; exact pointsTo_union H_disj
theorem halves8 (q : PosShare TreeShare) (f : S2x256x512.Idx → Elt F .bf16) :
    (pts c cc0_scratch2 Finset.univ q f : sProp 𝕄) ⊣⊢ iprop(pts c cc0_scratch2 H0 q f ∗ pts c cc0_scratch2 H1 q f) := by
  show (pts c cc0_scratch2 (Finset.univ : Finset S2x256x512.Idx) q f : sProp 𝕄) ⊣⊢ _
  rw [H_univ]; exact pointsTo_union H_disj
theorem cut9 (f : S3x1x8.Idx → Elt F .f32) :
    (pts c cc0_scratch3 Finset.univ fullShare f : sProp 𝕄) ⊢ iprop(some' c cc0_scratch3 C0 ∗ some' c cc0_scratch3 C1 ∗ some' c cc0_scratch3 C2) := by
  show (pts c cc0_scratch3 (Finset.univ : Finset S3x1x8.Idx) fullShare f : sProp 𝕄) ⊢ _
  rw [C_univ]
  iintro H
  ihave H := (pointsTo_union C_disj0).1 $$ H
  icases H with ⟨H0, H⟩
  ihave H := (pointsTo_union C_disj1).1 $$ H
  icases H with ⟨H1, H2⟩
  isplitl [H0]; · iexists f; iexact H0
  isplitl [H1]; · iexists f; iexact H1
  iexists f; iexact H2
theorem join9 (f0 f1 f2 : S3x1x8.Idx → Elt F .f32) :
    iprop(pts c cc0_scratch3 C0 fullShare f0 ∗ pts c cc0_scratch3 C1 fullShare f1 ∗ pts c cc0_scratch3 C2 fullShare f2)
      ⊢ (some' c cc0_scratch3 Finset.univ : sProp 𝕄) := by
  iintro ⟨H0, H1, H2⟩
  ihave H := (pointsTo_join (ℓ := (c : Thread nD τ).loc cc0_scratch3) C_disj1) $$ [H1 H2]
  · isplitl [H1] <;> iassumption
  ihave H := (pointsTo_join (ℓ := (c : Thread nD τ).loc cc0_scratch3) C_disj0) $$ [H0 H]
  · isplitl [H0] <;> iassumption
  iexists (C1 ∪ C2).piecewise (C2.piecewise f2 f1) f0
  iapply (Entails.of_eq (congrArg (fun I : Finset S3x1x8.Idx => (pts c cc0_scratch3 I fullShare ((C1 ∪ C2).piecewise (C2.piecewise f2 f1) f0) : sProp 𝕄)) C_univ).symm)
  iexact H
end Cut

/-! ## A copy sent, an arrival awaited -/

/-- Every cell of the protocol. -/
def allCells : Finset (GSem nD τ sig) :=
  Finset.univ.image barCell ∪ (Finset.univ : Finset (Dev nD × Fin 18)).image fun p => ocell p.1 p.2
theorem mem_bar (c : Dev nD) : barCell c ∈ allCells :=
  Finset.mem_union_left _ (Finset.mem_image_of_mem _ (Finset.mem_univ c))
theorem mem_own (c : Dev nD) (k : Fin 18) : ocell c k ∈ allCells :=
  Finset.mem_union_right _ (Finset.mem_image_of_mem (fun p : Dev nD × Fin 18 => ocell p.1 p.2) (Finset.mem_univ (c, k)))

variable (A : Dev nD → Ins F) (K : GSem nD τ sig → ℕ)

/-- What every device knows all along: the levels, and the invariant of every cell. -/
def info : sProp 𝕄 := iprop(levAts L lv ∗ bigSep allCells fun g => cellInv ER (Rd A) (K g) g)
instance info_persistent : BI.Persistent (info A K) := by unfold info; infer_instance
theorem info_lev : info A K ⊢ (levAts L lv : sProp 𝕄) := by unfold info; iintro ⟨H, -⟩; iexact H
theorem info_cell {g : GSem nD τ sig} (h : g ∈ allCells) : info A K ⊢ cellInv ER (Rd A) (K g) g := by
  have h' : (bigSep allCells fun g => cellInv ER (Rd A) (K g) g : sProp 𝕄) ⊢ cellInv ER (Rd A) (K g) g := bigSep_elim h
  unfold info; iintro ⟨-, H⟩; iapply h'; iexact H

/-- What device `c` still owes, with `n` payments left. -/
abbrev ow (c : Dev nD) (n : ℕ) : sProp 𝕄 := iprop(∃ W, owes (c : Thread nD τ) (owed c n) W)
/-- The right to pay copy semaphore `k` of device `c`. -/
abbrev tok (c : Dev nD) (k : Fin 18) : sProp 𝕄 := dutyTok ER (ocell c k) 0 0
/-- Before a copy has been sent: the right to its departure, and the semaphore at its start. -/
abbrev ready (c : Dev nD) (k : Fin 18) : sProp 𝕄 := iprop(tok c k ∗ rch c k ∗ atPos ER (ocell c k) 0 ∅ 0)
/-- An arrival that may be awaited. -/
abbrev armed (c : Dev nD) (k : Fin 18) : sProp 𝕄 := iprop(cred (tallyAt (ocell c k) () (amt k)) ∗ atPos ER (ocell c k) 0 ∅ 0)
/-- A copy semaphore after its round. -/
abbrev past (c : Dev nD) (k : Fin 18) : sProp 𝕄 := atPos ER (ocell c k) (0 + 1) ∅ 0

abbrev 𝒱₀ : Variants := Variants.none

/-- An arrival awaited hands over its payload. -/
theorem wait_own (c : Dev nD) (k : Fin 18) (n : ℕ) {α : Type} {Kt : α → sProp 𝕄} {kk : PUnit → Prog (TpuEff nD τ sig (Elt F) Λ₀ .tc) α}
    {sp sp' : Space} {s s' : Shape} {e e' : EltTy} {sem : DmaSem sig}
    {src : Memref sig .tc sp s e} {dst : Memref sig .tc sp' s' e'} {hs : src.view.WordExact} {hd : dst.view.WordExact}
    (hsem : SemLoc.dma sem = osem k) (hN : dst.view.dmaCredit = amt k) (hl : ∀ i < n, lvs (osem k) < evl i) :
    iprop(info A K ∗ armed c k ∗ ow c n)
      ⊢ iprop(((past c k ∗ pay A c k ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sem src dst hs hd) kk) Kt) := by
  iintro ⟨#HI, ⟨Hc, Hat⟩, ⟨%W, HO⟩⟩ Hk
  iapply (Rounds.wp_wait_rest_token 𝒱₀ ER (Rd A) (c : Thread nD τ) none (sm := SemLoc.dma sem) (κ := K (ocell c k))
      (wpE_waitDma2_eq 𝒱₀ (c : Thread nD τ) none Set.univ) (Set.mem_univ _) () (O := owed c n) (W := W) (R := 0) (m := 0) (T := ∅)
      (by rw [hsem, Nat.zero_add, expect_own, hN])) $$ [Hc HO Hat]
  · rw [hsem, hN]
    isplitr; · iapply (info_cell A K (mem_own c k)); iexact HI
    isplitl [Hc]; · iexact Hc
    isplitl [HO]; · iexact HO
    isplitr; · iapply (mayWait c (osem k) n hl); iapply (info_lev A K); iexact HI
    iexact Hat
  rw [hsem]
  iintro ⟨HO, Hat, -, Hpay⟩
  ihave Hp := (Entails.of_eq (rest_own A c k)) $$ Hpay
  iapply Hk
  isplitl [Hat]; · iexact Hat
  isplitl [Hp]; · iexact Hp
  iexists (insert (osem k, ()) W); iexact HO

/-- A copy sent: its departure may be awaited, and one payment fewer is owed. -/
theorem send (c c' d : Dev nD) (hd : d = c') (ks kr : Fin 18) (n : ℕ) {α : Type} {Kt : α → sProp 𝕄} {kk : PUnit → Prog (TpuEff nD τ sig (Elt F) Λ₀ .tc) α}
    {s : Shape} {e : EltTy} {semS semR : DmaSem sig}
    {src : Memref sig .tc .vmem s e} {dst : Memref sig (Dev.tc d : Thread nD τ).2.kind .vmem s e} {hsc : dst.view.ref.isScScratch = false}
    {hs : src.view.WordExact} {hdst : dst.view.WordExact} {ht : DmaTarget.Typed .vmem (.dma semR) (.remote (Dev.tc d : Thread nD τ) dst (.dma semS) hsc)}
    (hS : SemLoc.dma semS = osem ks) (hR : SemLoc.dma semR = osem kr) (hN : dst.view.amount (.dma semR) = amt kr) (hk : amt ks = amt kr)
    (hev : evc c n = ocell c' kr) (hea : eva n = amt kr) {q : PosShare TreeShare}
    (fs : Buf (Elt F) (src.view.loc (c : Thread nD τ))) (g : Buf (Elt F) (dst.view.loc (c' : Thread nD τ)))
    {I₁ : Finset (Idx (src.view.loc (c : Thread nD τ)))} {I₂ : Finset (Idx (dst.view.loc (c' : Thread nD τ)))}
    (h₁ : src.view.set = I₁) (h₂ : dst.view.set = I₂)
    (hp₁ : pay A c ks = (src.view.loc (c : Thread nD τ) ↦[I₁]{q} fs)) (hp₂ : pay A c' kr = (dst.view.loc (c' : Thread nD τ) ↦[I₂]{fullShare} g))
    (hw : ∀ fd, ∀ i ∈ I₂, dst.view.write (Elt F) fd (src.view.read (Elt F) fs) Finset.univ i = g i) :
    iprop(info A K ∗ ready c ks ∗ (tok c' kr ∗ rch c' kr) ∗ (src.view.loc (c : Thread nD τ) ↦[I₁]{q} fs)
        ∗ (∃ fd : Buf (Elt F) (dst.view.loc (c' : Thread nD τ)), dst.view.loc (c' : Thread nD τ) ↦[I₂]{fullShare} fd) ∗ ow c (n + 1))
      ⊢ iprop(((armed c ks ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ
              (.op (.enqueueDma src (.remote (Dev.tc d : Thread nD τ) dst (.dma semS) hsc) (.dma semR) hs hdst ht) kk) Kt) := by
  subst hd; subst h₁; subst h₂
  iintro ⟨#HI, ⟨HtS, #HrS, Hat⟩, ⟨HtR, #HrR⟩, Hsrc, ⟨%fd, Hdst⟩, ⟨%W, HO⟩⟩ Hk
  iapply (Rounds.wp_send_pointsTo 𝒱₀ ER (Rd A) (c : Thread nD τ) none (κ₁ := K (ocell c ks)) (κ₂ := K (ocell d kr))
    (sS := SemLoc.dma semS) (sem := SemLoc.dma semR) (c' := (d : Thread nD τ))
    (r₁ := 0) (r₂ := 0) (d₁ := 0) (d₂ := 0) (fd := fd) (fs := fs) (q := q)
    (by rw [hS, duties_own]; exact Finset.mem_singleton_self _) (by rw [hR, duties_own]; exact Finset.mem_singleton_self _)
    () () (amt kr) hN (by rw [hS, amount_own, hk]) (by rw [hR, amount_own])
    (O₀ := owed c (n + 1)) (owed c n) (by rw [hR]; show owed c n + tallyAt (evc c n) () (eva n) = _; rw [hev, hea]) (W := W)
    (by rw [hS, payload_own, hp₁]) (by rw [hR, payload_own, hp₂]; exact Entails.of_eq (pointsTo_congr (hw fd)))) $$ [HtS HtR Hsrc Hdst HO]
  · rw [hS, hR]
    isplitr; · iapply (info_cell A K (mem_own c ks)); iexact HI
    isplitr; · iapply (info_cell A K (mem_own d kr)); iexact HI
    isplitl [Hsrc]; · iexact Hsrc
    isplitl [Hdst]; · iexact Hdst
    isplitl [HO]; · iexact HO
    isplitl [HtS]; · iexact HtS
    isplitr; · iexact HrS
    isplitl [HtR]; · iexact HtR
    iexact HrR
  rw [hS, ← hk]
  iintro ⟨Hc, HO⟩
  iapply Hk
  isplitl [Hc Hat]
  · isplitl [Hc]; · iexact Hc
    iexact Hat
  iexists W; iexact HO

/-! ## Loads and stores -/

section Mem
variable (c : Dev nD) (q : PosShare TreeShare)

theorem hz : (![0, 0] : Fin 2 → Nat) = fun _ => 0 := funext fun a => by fin_cases a <;> rfl

/-- Slot `i` of two weight blocks, and slot `d` of the received counts, as a load reads them. -/
def slab0 (f : S2x256x512.Idx → Elt F .bf16) : Vec F S1x256x512 .bf16 := fun x => f (r0.emb x)
def slab1 (f : S2x256x512.Idx → Elt F .bf16) : Vec F S1x256x512 .bf16 := fun x => f (r1.emb x)
def cslot0 (f : S1x8.Idx → Elt F .f32) : Vec F S1x1x8 .f32 := fun x => slots f (s0.emb x)
def cslot1 (f : S1x8.Idx → Elt F .f32) : Vec F S1x1x8 .f32 := fun x => slots f (s1.emb x)
def cslot2 (f : S1x8.Idx → Elt F .f32) : Vec F S1x1x8 .f32 := fun x => slots f (s2.emb x)

theorem load_at {α : Type} {Kt : α → sProp 𝕄} {s : Shape} {e : EltTy} {m : Memref sig .tc .vmem s e} {r : LoadRect s} {hl : m.view.LoadsAt r}
    {kk : (r.shape.Idx → Elt F e) → Prog (TpuEff nD τ sig (Elt F) Λ₀ .tc) α} (f : Buf (Elt F) (m.view.loc (c : Thread nD τ))) (g : r.shape.Idx → Elt F e)
    (hg : m.view.readAt (Elt F) r f = g) :
    (m.view.loc (c : Thread nD τ) ↦[Finset.univ]{q} f)
      ⊢ iprop(((m.view.loc (c : Thread nD τ) ↦[Finset.univ]{q} f) -∗ wp frame (wpE (defs₀ (F := F)) 𝒱₀ (c : Thread nD τ) none) Set.univ (kk g) Kt)
        -∗ wp frame (wpE (defs₀ (F := F)) 𝒱₀ (c : Thread nD τ) none) Set.univ (.op (.load m r hl) kk) Kt) := by
  subst hg; exact wp_load 𝒱₀ (c : Thread nD τ) none Set.univ (Finset.subset_univ _)
theorem store_at {α : Type} {Kt : α → sProp 𝕄} {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {kk : PUnit → Prog (TpuEff nD τ sig (Elt F) Λ₀ .tc) α} (f g : Buf (Elt F) ((m.access r).loc (c : Thread nD τ)))
    (hg : (m.access r).write (Elt F) f w Finset.univ = g) :
    ((m.access r).loc (c : Thread nD τ) ↦[Finset.univ]{fullShare} f)
      ⊢ iprop((((m.access r).loc (c : Thread nD τ) ↦[Finset.univ]{fullShare} g) -∗ wp frame (wpE (defs₀ (F := F)) 𝒱₀ (c : Thread nD τ) none) Set.univ (kk ⟨⟩) Kt)
        -∗ wp frame (wpE (defs₀ (F := F)) 𝒱₀ (c : Thread nD τ) none) Set.univ (.op (.store m r w Finset.univ hx hm) kk) Kt) := by
  subst hg; exact wp_store 𝒱₀ (c : Thread nD τ) none Set.univ (Finset.subset_univ _)

theorem load40 {α : Type} {Kt : α → sProp 𝕄} {kk : (S1x256x512.Idx → Elt F .bf16) → Prog (TpuEff nD τ sig (Elt F) Λ₀ .tc) α} (f : S2x256x512.Idx → Elt F .bf16)
    {hl : (M4 : Memref sig .tc .vmem _ _).view.LoadsAt (r0).toLoadRect} :
    pts c cc0_stg4_0 H0 q f
      ⊢ iprop((pts c cc0_stg4_0 H0 q f -∗ wp frame (wpE (defs₀ (F := F)) 𝒱₀ (c : Thread nD τ) none) Set.univ (kk (slab0 f)) Kt)
        -∗ wp frame (wpE (defs₀ (F := F)) 𝒱₀ (c : Thread nD τ) none) Set.univ (.op (.load M4 (r0).toLoadRect hl) kk) Kt) :=
  wp_load_rect 𝒱₀ (c : Thread nD τ) none Set.univ (m := M4) (r := r0) (View.set_slice_whole _ _).subset
theorem load41 {α : Type} {Kt : α → sProp 𝕄} {kk : (S1x256x512.Idx → Elt F .bf16) → Prog (TpuEff nD τ sig (Elt F) Λ₀ .tc) α} (f : S2x256x512.Idx → Elt F .bf16)
    {hl : (M4 : Memref sig .tc .vmem _ _).view.LoadsAt (r1).toLoadRect} :
    pts c cc0_stg4_0 H1 q f
      ⊢ iprop((pts c cc0_stg4_0 H1 q f -∗ wp frame (wpE (defs₀ (F := F)) 𝒱₀ (c : Thread nD τ) none) Set.univ (kk (slab1 f)) Kt)
        -∗ wp frame (wpE (defs₀ (F := F)) 𝒱₀ (c : Thread nD τ) none) Set.univ (.op (.load M4 (r1).toLoadRect hl) kk) Kt) :=
  wp_load_rect 𝒱₀ (c : Thread nD τ) none Set.univ (m := M4) (r := r1) (View.set_slice_whole _ _).subset
theorem load60 {α : Type} {Kt : α → sProp 𝕄} {kk : (S1x256x512.Idx → Elt F .bf16) → Prog (TpuEff nD τ sig (Elt F) Λ₀ .tc) α} (f : S2x256x512.Idx → Elt F .bf16)
    {hl : (M6 : Memref sig .tc .vmem _ _).view.LoadsAt (r0).toLoadRect} :
    pts c cc0_scratch0 H0 q f
      ⊢ iprop((pts c cc0_scratch0 H0 q f -∗ wp frame (wpE (defs₀ (F := F)) 𝒱₀ (c : Thread nD τ) none) Set.univ (kk (slab0 f)) Kt)
        -∗ wp frame (wpE (defs₀ (F := F)) 𝒱₀ (c : Thread nD τ) none) Set.univ (.op (.load M6 (r0).toLoadRect hl) kk) Kt) :=
  wp_load_rect 𝒱₀ (c : Thread nD τ) none Set.univ (m := M6) (r := r0) (View.set_slice_whole _ _).subset
theorem load61 {α : Type} {Kt : α → sProp 𝕄} {kk : (S1x256x512.Idx → Elt F .bf16) → Prog (TpuEff nD τ sig (Elt F) Λ₀ .tc) α} (f : S2x256x512.Idx → Elt F .bf16)
    {hl : (M6 : Memref sig .tc .vmem _ _).view.LoadsAt (r1).toLoadRect} :
    pts c cc0_scratch0 H1 q f
      ⊢ iprop((pts c cc0_scratch0 H1 q f -∗ wp frame (wpE (defs₀ (F := F)) 𝒱₀ (c : Thread nD τ) none) Set.univ (kk (slab1 f)) Kt)
        -∗ wp frame (wpE (defs₀ (F := F)) 𝒱₀ (c : Thread nD τ) none) Set.univ (.op (.load M6 (r1).toLoadRect hl) kk) Kt) :=
  wp_load_rect 𝒱₀ (c : Thread nD τ) none Set.univ (m := M6) (r := r1) (View.set_slice_whole _ _).subset
theorem load70 {α : Type} {Kt : α → sProp 𝕄} {kk : (S1x256x512.Idx → Elt F .bf16) → Prog (TpuEff nD τ sig (Elt F) Λ₀ .tc) α} (f : S2x256x512.Idx → Elt F .bf16)
    {hl : (M7 : Memref sig .tc .vmem _ _).view.LoadsAt (r0).toLoadRect} :
    pts c cc0_scratch1 H0 q f
      ⊢ iprop((pts c cc0_scratch1 H0 q f -∗ wp frame (wpE (defs₀ (F := F)) 𝒱₀ (c : Thread nD τ) none) Set.univ (kk (slab0 f)) Kt)
        -∗ wp frame (wpE (defs₀ (F := F)) 𝒱₀ (c : Thread nD τ) none) Set.univ (.op (.load M7 (r0).toLoadRect hl) kk) Kt) :=
  wp_load_rect 𝒱₀ (c : Thread nD τ) none Set.univ (m := M7) (r := r0) (View.set_slice_whole _ _).subset
theorem load71 {α : Type} {Kt : α → sProp 𝕄} {kk : (S1x256x512.Idx → Elt F .bf16) → Prog (TpuEff nD τ sig (Elt F) Λ₀ .tc) α} (f : S2x256x512.Idx → Elt F .bf16)
    {hl : (M7 : Memref sig .tc .vmem _ _).view.LoadsAt (r1).toLoadRect} :
    pts c cc0_scratch1 H1 q f
      ⊢ iprop((pts c cc0_scratch1 H1 q f -∗ wp frame (wpE (defs₀ (F := F)) 𝒱₀ (c : Thread nD τ) none) Set.univ (kk (slab1 f)) Kt)
        -∗ wp frame (wpE (defs₀ (F := F)) 𝒱₀ (c : Thread nD τ) none) Set.univ (.op (.load M7 (r1).toLoadRect hl) kk) Kt) :=
  wp_load_rect 𝒱₀ (c : Thread nD τ) none Set.univ (m := M7) (r := r1) (View.set_slice_whole _ _).subset
theorem load80 {α : Type} {Kt : α → sProp 𝕄} {kk : (S1x256x512.Idx → Elt F .bf16) → Prog (TpuEff nD τ sig (Elt F) Λ₀ .tc) α} (f : S2x256x512.Idx → Elt F .bf16)
    {hl : (M8 : Memref sig .tc .vmem _ _).view.LoadsAt (r0).toLoadRect} :
    pts c cc0_scratch2 H0 q f
      ⊢ iprop((pts c cc0_scratch2 H0 q f -∗ wp frame (wpE (defs₀ (F := F)) 𝒱₀ (c : Thread nD τ) none) Set.univ (kk (slab0 f)) Kt)
        -∗ wp frame (wpE (defs₀ (F := F)) 𝒱₀ (c : Thread nD τ) none) Set.univ (.op (.load M8 (r0).toLoadRect hl) kk) Kt) :=
  wp_load_rect 𝒱₀ (c : Thread nD τ) none Set.univ (m := M8) (r := r0) (View.set_slice_whole _ _).subset
theorem load81 {α : Type} {Kt : α → sProp 𝕄} {kk : (S1x256x512.Idx → Elt F .bf16) → Prog (TpuEff nD τ sig (Elt F) Λ₀ .tc) α} (f : S2x256x512.Idx → Elt F .bf16)
    {hl : (M8 : Memref sig .tc .vmem _ _).view.LoadsAt (r1).toLoadRect} :
    pts c cc0_scratch2 H1 q f
      ⊢ iprop((pts c cc0_scratch2 H1 q f -∗ wp frame (wpE (defs₀ (F := F)) 𝒱₀ (c : Thread nD τ) none) Set.univ (kk (slab1 f)) Kt)
        -∗ wp frame (wpE (defs₀ (F := F)) 𝒱₀ (c : Thread nD τ) none) Set.univ (.op (.load M8 (r1).toLoadRect hl) kk) Kt) :=
  wp_load_rect 𝒱₀ (c : Thread nD τ) none Set.univ (m := M8) (r := r1) (View.set_slice_whole _ _).subset
theorem load90 {α : Type} {Kt : α → sProp 𝕄} {kk : (S1x1x8.Idx → Elt F .f32) → Prog (TpuEff nD τ sig (Elt F) Λ₀ .tc) α} (f : S1x8.Idx → Elt F .f32)
    {hl : (M9 : Memref sig .tc .vmem _ _).view.LoadsAt (s0).toLoadRect} :
    pts c cc0_scratch3 C0 q (slots f)
      ⊢ iprop((pts c cc0_scratch3 C0 q (slots f) -∗ wp frame (wpE (defs₀ (F := F)) 𝒱₀ (c : Thread nD τ) none) Set.univ (kk (cslot0 f)) Kt)
        -∗ wp frame (wpE (defs₀ (F := F)) 𝒱₀ (c : Thread nD τ) none) Set.univ (.op (.load M9 (s0).toLoadRect hl) kk) Kt) :=
  wp_load_rect 𝒱₀ (c : Thread nD τ) none Set.univ (m := M9) (r := s0) (View.set_slice_whole _ _).subset
theorem load91 {α : Type} {Kt : α → sProp 𝕄} {kk : (S1x1x8.Idx → Elt F .f32) → Prog (TpuEff nD τ sig (Elt F) Λ₀ .tc) α} (f : S1x8.Idx → Elt F .f32)
    {hl : (M9 : Memref sig .tc .vmem _ _).view.LoadsAt (s1).toLoadRect} :
    pts c cc0_scratch3 C1 q (slots f)
      ⊢ iprop((pts c cc0_scratch3 C1 q (slots f) -∗ wp frame (wpE (defs₀ (F := F)) 𝒱₀ (c : Thread nD τ) none) Set.univ (kk (cslot1 f)) Kt)
        -∗ wp frame (wpE (defs₀ (F := F)) 𝒱₀ (c : Thread nD τ) none) Set.univ (.op (.load M9 (s1).toLoadRect hl) kk) Kt) :=
  wp_load_rect 𝒱₀ (c : Thread nD τ) none Set.univ (m := M9) (r := s1) (View.set_slice_whole _ _).subset
theorem load92 {α : Type} {Kt : α → sProp 𝕄} {kk : (S1x1x8.Idx → Elt F .f32) → Prog (TpuEff nD τ sig (Elt F) Λ₀ .tc) α} (f : S1x8.Idx → Elt F .f32)
    {hl : (M9 : Memref sig .tc .vmem _ _).view.LoadsAt (s2).toLoadRect} :
    pts c cc0_scratch3 C2 q (slots f)
      ⊢ iprop((pts c cc0_scratch3 C2 q (slots f) -∗ wp frame (wpE (defs₀ (F := F)) 𝒱₀ (c : Thread nD τ) none) Set.univ (kk (cslot2 f)) Kt)
        -∗ wp frame (wpE (defs₀ (F := F)) 𝒱₀ (c : Thread nD τ) none) Set.univ (.op (.load M9 (s2).toLoadRect hl) kk) Kt) :=
  wp_load_rect 𝒱₀ (c : Thread nD τ) none Set.univ (m := M9) (r := s2) (View.set_slice_whole _ _).subset
theorem rd0 (f : S512x256.Idx → Elt F .bf16) :
    (M0 : Memref sig .tc .vmem _ _).view.readAt (Elt F) (Rect.unit (s := S512x256) ![0, 0] S512x256.size inb_S512x256_S512x256_0_0).toLoadRect f = f := Memref.readAt_unit_zero (Elt F) cc0_stg0_0 hz _ f
theorem load0 {α : Type} {Kt : α → sProp 𝕄} {kk : (S512x256.Idx → Elt F .bf16) → Prog (TpuEff nD τ sig (Elt F) Λ₀ .tc) α} (f : S512x256.Idx → Elt F .bf16)
    {hl : (M0 : Memref sig .tc .vmem _ _).view.LoadsAt (Rect.unit (s := S512x256) ![0, 0] S512x256.size inb_S512x256_S512x256_0_0).toLoadRect} :
    pts c cc0_stg0_0 Finset.univ q f
      ⊢ iprop((pts c cc0_stg0_0 Finset.univ q f -∗ wp frame (wpE (defs₀ (F := F)) 𝒱₀ (c : Thread nD τ) none) Set.univ (kk (f)) Kt)
        -∗ wp frame (wpE (defs₀ (F := F)) 𝒱₀ (c : Thread nD τ) none) Set.univ (.op (.load M0 (Rect.unit (s := S512x256) ![0, 0] S512x256.size inb_S512x256_S512x256_0_0).toLoadRect hl) kk) Kt) :=
  load_at c q (m := M0) (r := (Rect.unit (s := S512x256) ![0, 0] S512x256.size inb_S512x256_S512x256_0_0).toLoadRect) (hl := hl) (kk := kk) f f (rd0 f)
theorem rd1 (f : S512x1.Idx → Elt F .i32) :
    (M1 : Memref sig .tc .vmem _ _).view.readAt (Elt F) (Rect.unit (s := S512x1) ![0, 0] S512x1.size inb_S512x1_S512x1_0_0).toLoadRect f = f := Memref.readAt_unit_zero (Elt F) cc0_stg1_0 hz _ f
theorem load1 {α : Type} {Kt : α → sProp 𝕄} {kk : (S512x1.Idx → Elt F .i32) → Prog (TpuEff nD τ sig (Elt F) Λ₀ .tc) α} (f : S512x1.Idx → Elt F .i32)
    {hl : (M1 : Memref sig .tc .vmem _ _).view.LoadsAt (Rect.unit (s := S512x1) ![0, 0] S512x1.size inb_S512x1_S512x1_0_0).toLoadRect} :
    pts c cc0_stg1_0 Finset.univ q f
      ⊢ iprop((pts c cc0_stg1_0 Finset.univ q f -∗ wp frame (wpE (defs₀ (F := F)) 𝒱₀ (c : Thread nD τ) none) Set.univ (kk (f)) Kt)
        -∗ wp frame (wpE (defs₀ (F := F)) 𝒱₀ (c : Thread nD τ) none) Set.univ (.op (.load M1 (Rect.unit (s := S512x1) ![0, 0] S512x1.size inb_S512x1_S512x1_0_0).toLoadRect hl) kk) Kt) :=
  load_at c q (m := M1) (r := (Rect.unit (s := S512x1) ![0, 0] S512x1.size inb_S512x1_S512x1_0_0).toLoadRect) (hl := hl) (kk := kk) f f (rd1 f)
theorem rd2 (f : S512x1.Idx → Elt F .f32) :
    (M2 : Memref sig .tc .vmem _ _).view.readAt (Elt F) (Rect.unit (s := S512x1) ![0, 0] S512x1.size inb_S512x1_S512x1_0_0).toLoadRect f = f := Memref.readAt_unit_zero (Elt F) cc0_stg2_0 hz _ f
theorem load2 {α : Type} {Kt : α → sProp 𝕄} {kk : (S512x1.Idx → Elt F .f32) → Prog (TpuEff nD τ sig (Elt F) Λ₀ .tc) α} (f : S512x1.Idx → Elt F .f32)
    {hl : (M2 : Memref sig .tc .vmem _ _).view.LoadsAt (Rect.unit (s := S512x1) ![0, 0] S512x1.size inb_S512x1_S512x1_0_0).toLoadRect} :
    pts c cc0_stg2_0 Finset.univ q f
      ⊢ iprop((pts c cc0_stg2_0 Finset.univ q f -∗ wp frame (wpE (defs₀ (F := F)) 𝒱₀ (c : Thread nD τ) none) Set.univ (kk (f)) Kt)
        -∗ wp frame (wpE (defs₀ (F := F)) 𝒱₀ (c : Thread nD τ) none) Set.univ (.op (.load M2 (Rect.unit (s := S512x1) ![0, 0] S512x1.size inb_S512x1_S512x1_0_0).toLoadRect hl) kk) Kt) :=
  load_at c q (m := M2) (r := (Rect.unit (s := S512x1) ![0, 0] S512x1.size inb_S512x1_S512x1_0_0).toLoadRect) (hl := hl) (kk := kk) f f (rd2 f)
theorem rd5 (f : S512x512.Idx → Elt F .f32) :
    (M5 : Memref sig .tc .vmem _ _).view.readAt (Elt F) (Rect.unit (s := S512x512) ![0, 0] S512x512.size inb_S512x512_S512x512_0_0).toLoadRect f = f := Memref.readAt_unit_zero (Elt F) cc0_stg5_0 hz _ f
theorem load5 {α : Type} {Kt : α → sProp 𝕄} {kk : (S512x512.Idx → Elt F .f32) → Prog (TpuEff nD τ sig (Elt F) Λ₀ .tc) α} (f : S512x512.Idx → Elt F .f32)
    {hl : (M5 : Memref sig .tc .vmem _ _).view.LoadsAt (Rect.unit (s := S512x512) ![0, 0] S512x512.size inb_S512x512_S512x512_0_0).toLoadRect} :
    pts c cc0_stg5_0 Finset.univ q f
      ⊢ iprop((pts c cc0_stg5_0 Finset.univ q f -∗ wp frame (wpE (defs₀ (F := F)) 𝒱₀ (c : Thread nD τ) none) Set.univ (kk (f)) Kt)
        -∗ wp frame (wpE (defs₀ (F := F)) 𝒱₀ (c : Thread nD τ) none) Set.univ (.op (.load M5 (Rect.unit (s := S512x512) ![0, 0] S512x512.size inb_S512x512_S512x512_0_0).toLoadRect hl) kk) Kt) :=
  load_at c q (m := M5) (r := (Rect.unit (s := S512x512) ![0, 0] S512x512.size inb_S512x512_S512x512_0_0).toLoadRect) (hl := hl) (kk := kk) f f (rd5 f)
theorem wr5 (f w : S512x512.Idx → Elt F .f32) :
    ((M5 : Memref sig .tc .vmem _ _).access (Rect.unit (s := S512x512) ![0, 0] S512x512.size inb_S512x512_S512x512_0_0)).write (Elt F) f w Finset.univ = w := Memref.write_access_unit_zero_univ (Elt F) cc0_stg5_0 hz _ f w
theorem store5 {α : Type} {Kt : α → sProp 𝕄} {kk : PUnit → Prog (TpuEff nD τ sig (Elt F) Λ₀ .tc) α} (f w : S512x512.Idx → Elt F .f32)
    {hx : ((M5 : Memref sig .tc .vmem _ _).access (Rect.unit (s := S512x512) ![0, 0] S512x512.size inb_S512x512_S512x512_0_0)).Stores Finset.univ}
    {hm : (Finset.univ : Finset S512x512.Idx) = Finset.univ ∨ ∀ a, (Rect.unit (s := S512x512) ![0, 0] S512x512.size inb_S512x512_S512x512_0_0).stride a = 1} :
    pts c cc0_stg5_0 Finset.univ fullShare f
      ⊢ iprop((pts c cc0_stg5_0 Finset.univ fullShare w -∗ wp frame (wpE (defs₀ (F := F)) 𝒱₀ (c : Thread nD τ) none) Set.univ (kk ⟨⟩) Kt)
        -∗ wp frame (wpE (defs₀ (F := F)) 𝒱₀ (c : Thread nD τ) none) Set.univ
            (.op (.store M5 (Rect.unit (s := S512x512) ![0, 0] S512x512.size inb_S512x512_S512x512_0_0) w Finset.univ hx hm) kk) Kt) :=
  store_at c (m := M5) (r := (Rect.unit (s := S512x512) ![0, 0] S512x512.size inb_S512x512_S512x512_0_0)) (w := w) (hx := hx) (hm := hm) (kk := kk) f w (wr5 f w)
end Mem

end Cert.Moe
-- ==== Proof.Channels.lean ====
/-
One rule for each copy sent and one for each arrival awaited, naming what is handed over.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Ins F) (K : GSem nD τ sig → ℕ) (c : Dev nD)

abbrev tr (p : Dev nD) (k : Fin 18) : sProp 𝕄 := iprop(tok p k ∗ rch p k)

abbrev sm0 : DmaSem sig := (((cc0_scratch4 : DmaSems sig S6).slice (Rect.unit (s := S6) ![0] S1.size inb_S6_S1_0)).squeeze S_ squeezes_S1_S_ : DmaSems sig S_).sem
theorem sm0_eq : SemLoc.dma sm0 = osem 0 := rfl
theorem pay0 : pay A c 0 = pts c cc0_stg4_0 H0 qL (A c).ew := rfl
abbrev sm1 : DmaSem sig := (((cc0_scratch4 : DmaSems sig S6).slice (Rect.unit (s := S6) ![1] S1.size inb_S6_S1_1)).squeeze S_ squeezes_S1_S_ : DmaSems sig S_).sem
theorem sm1_eq : SemLoc.dma sm1 = osem 1 := rfl
theorem pay1 : pay A c 1 = pts c cc0_stg4_0 H1 qL (A c).ew := rfl
abbrev sm2 : DmaSem sig := (((cc0_scratch4 : DmaSems sig S6).slice (Rect.unit (s := S6) ![2] S1.size inb_S6_S1_2)).squeeze S_ squeezes_S1_S_ : DmaSems sig S_).sem
theorem sm2_eq : SemLoc.dma sm2 = osem 2 := rfl
theorem pay2 : pay A c 2 = pts c cc0_stg4_0 H1 qRL (A c).ew := rfl
abbrev sm3 : DmaSem sig := (((cc0_scratch4 : DmaSems sig S6).slice (Rect.unit (s := S6) ![3] S1.size inb_S6_S1_3)).squeeze S_ squeezes_S1_S_ : DmaSems sig S_).sem
theorem sm3_eq : SemLoc.dma sm3 = osem 3 := rfl
theorem pay3 : pay A c 3 = pts c cc0_stg4_0 H0 qRL (A c).ew := rfl
abbrev sm4 : DmaSem sig := (((cc0_scratch4 : DmaSems sig S6).slice (Rect.unit (s := S6) ![4] S1.size inb_S6_S1_4)).squeeze S_ squeezes_S1_S_ : DmaSems sig S_).sem
theorem sm4_eq : SemLoc.dma sm4 = osem 4 := rfl
theorem pay4 : pay A c 4 = pts c cc0_scratch0 H0 qL (A (sh 3 c)).ew := rfl
abbrev sm5 : DmaSem sig := (((cc0_scratch4 : DmaSems sig S6).slice (Rect.unit (s := S6) ![5] S1.size inb_S6_S1_5)).squeeze S_ squeezes_S1_S_ : DmaSems sig S_).sem
theorem sm5_eq : SemLoc.dma sm5 = osem 5 := rfl
theorem pay5 : pay A c 5 = pts c cc0_scratch1 H1 qL (A (sh 1 c)).ew := rfl
abbrev sm6 : DmaSem sig := (((cc0_scratch5 : DmaSems sig S6).slice (Rect.unit (s := S6) ![0] S1.size inb_S6_S1_0)).squeeze S_ squeezes_S1_S_ : DmaSems sig S_).sem
theorem sm6_eq : SemLoc.dma sm6 = osem 6 := rfl
theorem pay6 : pay A c 6 = pts c cc0_scratch0 H0 fullShare (A (sh 3 c)).ew := rfl
abbrev sm7 : DmaSem sig := (((cc0_scratch5 : DmaSems sig S6).slice (Rect.unit (s := S6) ![1] S1.size inb_S6_S1_1)).squeeze S_ squeezes_S1_S_ : DmaSems sig S_).sem
theorem sm7_eq : SemLoc.dma sm7 = osem 7 := rfl
theorem pay7 : pay A c 7 = pts c cc0_scratch0 H1 fullShare (A (sh 3 c)).ew := rfl
abbrev sm8 : DmaSem sig := (((cc0_scratch5 : DmaSems sig S6).slice (Rect.unit (s := S6) ![2] S1.size inb_S6_S1_2)).squeeze S_ squeezes_S1_S_ : DmaSems sig S_).sem
theorem sm8_eq : SemLoc.dma sm8 = osem 8 := rfl
theorem pay8 : pay A c 8 = pts c cc0_scratch1 H1 fullShare (A (sh 1 c)).ew := rfl
abbrev sm9 : DmaSem sig := (((cc0_scratch5 : DmaSems sig S6).slice (Rect.unit (s := S6) ![3] S1.size inb_S6_S1_3)).squeeze S_ squeezes_S1_S_ : DmaSems sig S_).sem
theorem sm9_eq : SemLoc.dma sm9 = osem 9 := rfl
theorem pay9 : pay A c 9 = pts c cc0_scratch1 H0 fullShare (A (sh 1 c)).ew := rfl
abbrev sm10 : DmaSem sig := (((cc0_scratch5 : DmaSems sig S6).slice (Rect.unit (s := S6) ![4] S1.size inb_S6_S1_4)).squeeze S_ squeezes_S1_S_ : DmaSems sig S_).sem
theorem sm10_eq : SemLoc.dma sm10 = osem 10 := rfl
theorem pay10 : pay A c 10 = pts c cc0_scratch2 H0 fullShare (A (sh 2 c)).ew := rfl
abbrev sm11 : DmaSem sig := (((cc0_scratch5 : DmaSems sig S6).slice (Rect.unit (s := S6) ![5] S1.size inb_S6_S1_5)).squeeze S_ squeezes_S1_S_ : DmaSems sig S_).sem
theorem sm11_eq : SemLoc.dma sm11 = osem 11 := rfl
theorem pay11 : pay A c 11 = pts c cc0_scratch2 H1 fullShare (A (sh 2 c)).ew := rfl
abbrev sm12 : DmaSem sig := (((cc0_scratch6 : DmaSems sig S3).slice (Rect.unit (s := S3) ![0] S1.size inb_S3_S1_0)).squeeze S_ squeezes_S1_S_ : DmaSems sig S_).sem
theorem sm12_eq : SemLoc.dma sm12 = osem 12 := rfl
theorem pay12 : pay A c 12 = pts c cc0_stg3_0 Finset.univ qL (A c).cn := rfl
abbrev sm13 : DmaSem sig := (((cc0_scratch6 : DmaSems sig S3).slice (Rect.unit (s := S3) ![1] S1.size inb_S3_S1_1)).squeeze S_ squeezes_S1_S_ : DmaSems sig S_).sem
theorem sm13_eq : SemLoc.dma sm13 = osem 13 := rfl
theorem pay13 : pay A c 13 = pts c cc0_stg3_0 Finset.univ qRL (A c).cn := rfl
abbrev sm14 : DmaSem sig := (((cc0_scratch6 : DmaSems sig S3).slice (Rect.unit (s := S3) ![2] S1.size inb_S3_S1_2)).squeeze S_ squeezes_S1_S_ : DmaSems sig S_).sem
theorem sm14_eq : SemLoc.dma sm14 = osem 14 := rfl
theorem pay14 : pay A c 14 = pts c cc0_stg3_0 Finset.univ qRR (A c).cn := rfl
abbrev sm15 : DmaSem sig := (((cc0_scratch7 : DmaSems sig S3).slice (Rect.unit (s := S3) ![0] S1.size inb_S3_S1_0)).squeeze S_ squeezes_S1_S_ : DmaSems sig S_).sem
theorem sm15_eq : SemLoc.dma sm15 = osem 15 := rfl
theorem pay15 : pay A c 15 = pts c cc0_scratch3 C0 fullShare (slots (A (sh 3 c)).cn) := rfl
abbrev sm16 : DmaSem sig := (((cc0_scratch7 : DmaSems sig S3).slice (Rect.unit (s := S3) ![1] S1.size inb_S3_S1_1)).squeeze S_ squeezes_S1_S_ : DmaSems sig S_).sem
theorem sm16_eq : SemLoc.dma sm16 = osem 16 := rfl
theorem pay16 : pay A c 16 = pts c cc0_scratch3 C1 fullShare (slots (A (sh 2 c)).cn) := rfl
abbrev sm17 : DmaSem sig := (((cc0_scratch7 : DmaSems sig S3).slice (Rect.unit (s := S3) ![2] S1.size inb_S3_S1_2)).squeeze S_ squeezes_S1_S_ : DmaSems sig S_).sem
theorem sm17_eq : SemLoc.dma sm17 = osem 17 := rfl
theorem pay17 : pay A c 17 = pts c cc0_scratch3 C2 fullShare (slots (A (sh 1 c)).cn) := rfl
theorem wt0 (n : ℕ) (hl : ∀ i < n, lvs (osem 0) < evl i) {α : Type} {Kt : α → sProp 𝕄} {kk : PUnit → Prog (TpuEff nD τ sig (Elt F) Λ₀ .tc) α}
    {hs : ((hv0 M6) : Memref sig .tc .vmem S256x512 .bf16).view.WordExact} {hd : ((hv0 M4) : Memref sig .tc .vmem S256x512 .bf16).view.WordExact} :
    iprop(info A K ∗ armed c 0 ∗ ow c n)
      ⊢ iprop(((past c 0 ∗ pts c cc0_stg4_0 H0 qL (A c).ew ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm0 (hv0 M6) (hv0 M4) hs hd) kk) Kt) :=
  wait_own A K c 0 n sm0_eq rfl hl
theorem wt6 (n : ℕ) (hl : ∀ i < n, lvs (osem 6) < evl i) {α : Type} {Kt : α → sProp 𝕄} {kk : PUnit → Prog (TpuEff nD τ sig (Elt F) Λ₀ .tc) α}
    {hs : ((hv0 M4) : Memref sig .tc .vmem S256x512 .bf16).view.WordExact} {hd : ((hv0 M6) : Memref sig .tc .vmem S256x512 .bf16).view.WordExact} :
    iprop(info A K ∗ armed c 6 ∗ ow c n)
      ⊢ iprop(((past c 6 ∗ pts c cc0_scratch0 H0 fullShare (A (sh 3 c)).ew ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm6 (hv0 M4) (hv0 M6) hs hd) kk) Kt) :=
  wait_own A K c 6 n sm6_eq rfl hl
theorem sd0 {α : Type} {Kt : α → sProp 𝕄} {kk : PUnit → Prog (TpuEff nD τ sig (Elt F) Λ₀ .tc) α}
    {hsc : ((hv0 M6) : Memref sig (Dev.tc (⟨k0_dev7 c, k0_dev7_lt c⟩ : Dev nD) : Thread nD τ).2.kind .vmem S256x512 .bf16).view.ref.isScScratch = false}
    {hs : ((hv0 M4) : Memref sig .tc .vmem S256x512 .bf16).view.WordExact} {hd : ((hv0 M6) : Memref sig .tc .vmem S256x512 .bf16).view.WordExact}
    {ht : DmaTarget.Typed .vmem (.dma sm6) (.remote (Dev.tc (⟨k0_dev7 c, k0_dev7_lt c⟩ : Dev nD) : Thread nD τ) ((hv0 M6) : Memref sig .tc .vmem S256x512 .bf16) (.dma sm0) hsc)} :
    iprop(info A K ∗ ready c 0 ∗ tr (sh 1 c) 6 ∗ pts c cc0_stg4_0 H0 qL (A c).ew ∗ some' (sh 1 c) cc0_scratch0 H0 ∗ ow c 6)
      ⊢ iprop(((armed c 0 ∗ ow c 5) -∗ wp frame (wpE (defs₀ (F := F)) 𝒱₀ (c : Thread nD τ) none) Set.univ (kk ⟨⟩) Kt)
          -∗ wp frame (wpE (defs₀ (F := F)) 𝒱₀ (c : Thread nD τ) none) Set.univ (.op (.enqueueDma (hv0 M4) (.remote (Dev.tc (⟨k0_dev7 c, k0_dev7_lt c⟩ : Dev nD) : Thread nD τ) (hv0 M6) (.dma sm0) hsc) (.dma sm6) hs hd ht) kk) Kt) :=
  send A K c (sh 1 c) (⟨k0_dev7 c, k0_dev7_lt c⟩ : Dev nD) (dev7 c) 0 6 5 (src := (hv0 M4)) (dst := (hv0 M6)) (hsc := hsc) (hs := hs) (hdst := hd) (ht := ht)
    sm0_eq sm6_eq rfl rfl rfl rfl (A c).ew (A c).ew set40 set60 (pay0 A c)
    ((pay6 A (sh 1 c)).trans (congrArg (fun d => pts (sh 1 c) cc0_scratch0 H0 fullShare (A d).ew) (sh31 c))) (fun fd i hi => wr640 fd _ i hi)
theorem wt1 (n : ℕ) (hl : ∀ i < n, lvs (osem 1) < evl i) {α : Type} {Kt : α → sProp 𝕄} {kk : PUnit → Prog (TpuEff nD τ sig (Elt F) Λ₀ .tc) α}
    {hs : ((hv1 M6) : Memref sig .tc .vmem S256x512 .bf16).view.WordExact} {hd : ((hv1 M4) : Memref sig .tc .vmem S256x512 .bf16).view.WordExact} :
    iprop(info A K ∗ armed c 1 ∗ ow c n)
      ⊢ iprop(((past c 1 ∗ pts c cc0_stg4_0 H1 qL (A c).ew ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm1 (hv1 M6) (hv1 M4) hs hd) kk) Kt) :=
  wait_own A K c 1 n sm1_eq rfl hl
theorem wt7 (n : ℕ) (hl : ∀ i < n, lvs (osem 7) < evl i) {α : Type} {Kt : α → sProp 𝕄} {kk : PUnit → Prog (TpuEff nD τ sig (Elt F) Λ₀ .tc) α}
    {hs : ((hv1 M4) : Memref sig .tc .vmem S256x512 .bf16).view.WordExact} {hd : ((hv1 M6) : Memref sig .tc .vmem S256x512 .bf16).view.WordExact} :
    iprop(info A K ∗ armed c 7 ∗ ow c n)
      ⊢ iprop(((past c 7 ∗ pts c cc0_scratch0 H1 fullShare (A (sh 3 c)).ew ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm7 (hv1 M4) (hv1 M6) hs hd) kk) Kt) :=
  wait_own A K c 7 n sm7_eq rfl hl
theorem sd1 {α : Type} {Kt : α → sProp 𝕄} {kk : PUnit → Prog (TpuEff nD τ sig (Elt F) Λ₀ .tc) α}
    {hsc : ((hv1 M6) : Memref sig (Dev.tc (⟨k0_dev8 c, k0_dev8_lt c⟩ : Dev nD) : Thread nD τ).2.kind .vmem S256x512 .bf16).view.ref.isScScratch = false}
    {hs : ((hv1 M4) : Memref sig .tc .vmem S256x512 .bf16).view.WordExact} {hd : ((hv1 M6) : Memref sig .tc .vmem S256x512 .bf16).view.WordExact}
    {ht : DmaTarget.Typed .vmem (.dma sm7) (.remote (Dev.tc (⟨k0_dev8 c, k0_dev8_lt c⟩ : Dev nD) : Thread nD τ) ((hv1 M6) : Memref sig .tc .vmem S256x512 .bf16) (.dma sm1) hsc)} :
    iprop(info A K ∗ ready c 1 ∗ tr (sh 1 c) 7 ∗ pts c cc0_stg4_0 H1 qL (A c).ew ∗ some' (sh 1 c) cc0_scratch0 H1 ∗ ow c 5)
      ⊢ iprop(((armed c 1 ∗ ow c 4) -∗ wp frame (wpE (defs₀ (F := F)) 𝒱₀ (c : Thread nD τ) none) Set.univ (kk ⟨⟩) Kt)
          -∗ wp frame (wpE (defs₀ (F := F)) 𝒱₀ (c : Thread nD τ) none) Set.univ (.op (.enqueueDma (hv1 M4) (.remote (Dev.tc (⟨k0_dev8 c, k0_dev8_lt c⟩ : Dev nD) : Thread nD τ) (hv1 M6) (.dma sm1) hsc) (.dma sm7) hs hd ht) kk) Kt) :=
  send A K c (sh 1 c) (⟨k0_dev8 c, k0_dev8_lt c⟩ : Dev nD) (dev8 c) 1 7 4 (src := (hv1 M4)) (dst := (hv1 M6)) (hsc := hsc) (hs := hs) (hdst := hd) (ht := ht)
    sm1_eq sm7_eq rfl rfl rfl rfl (A c).ew (A c).ew set41 set61 (pay1 A c)
    ((pay7 A (sh 1 c)).trans (congrArg (fun d => pts (sh 1 c) cc0_scratch0 H1 fullShare (A d).ew) (sh31 c))) (fun fd i hi => wr641 fd _ i hi)
theorem wt2 (n : ℕ) (hl : ∀ i < n, lvs (osem 2) < evl i) {α : Type} {Kt : α → sProp 𝕄} {kk : PUnit → Prog (TpuEff nD τ sig (Elt F) Λ₀ .tc) α}
    {hs : ((hv1 M7) : Memref sig .tc .vmem S256x512 .bf16).view.WordExact} {hd : ((hv1 M4) : Memref sig .tc .vmem S256x512 .bf16).view.WordExact} :
    iprop(info A K ∗ armed c 2 ∗ ow c n)
      ⊢ iprop(((past c 2 ∗ pts c cc0_stg4_0 H1 qRL (A c).ew ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm2 (hv1 M7) (hv1 M4) hs hd) kk) Kt) :=
  wait_own A K c 2 n sm2_eq rfl hl
theorem wt8 (n : ℕ) (hl : ∀ i < n, lvs (osem 8) < evl i) {α : Type} {Kt : α → sProp 𝕄} {kk : PUnit → Prog (TpuEff nD τ sig (Elt F) Λ₀ .tc) α}
    {hs : ((hv1 M4) : Memref sig .tc .vmem S256x512 .bf16).view.WordExact} {hd : ((hv1 M7) : Memref sig .tc .vmem S256x512 .bf16).view.WordExact} :
    iprop(info A K ∗ armed c 8 ∗ ow c n)
      ⊢ iprop(((past c 8 ∗ pts c cc0_scratch1 H1 fullShare (A (sh 1 c)).ew ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm8 (hv1 M4) (hv1 M7) hs hd) kk) Kt) :=
  wait_own A K c 8 n sm8_eq rfl hl
theorem sd2 {α : Type} {Kt : α → sProp 𝕄} {kk : PUnit → Prog (TpuEff nD τ sig (Elt F) Λ₀ .tc) α}
    {hsc : ((hv1 M7) : Memref sig (Dev.tc (⟨k0_dev9 c, k0_dev9_lt c⟩ : Dev nD) : Thread nD τ).2.kind .vmem S256x512 .bf16).view.ref.isScScratch = false}
    {hs : ((hv1 M4) : Memref sig .tc .vmem S256x512 .bf16).view.WordExact} {hd : ((hv1 M7) : Memref sig .tc .vmem S256x512 .bf16).view.WordExact}
    {ht : DmaTarget.Typed .vmem (.dma sm8) (.remote (Dev.tc (⟨k0_dev9 c, k0_dev9_lt c⟩ : Dev nD) : Thread nD τ) ((hv1 M7) : Memref sig .tc .vmem S256x512 .bf16) (.dma sm2) hsc)} :
    iprop(info A K ∗ ready c 2 ∗ tr (sh 3 c) 8 ∗ pts c cc0_stg4_0 H1 qRL (A c).ew ∗ some' (sh 3 c) cc0_scratch1 H1 ∗ ow c 4)
      ⊢ iprop(((armed c 2 ∗ ow c 3) -∗ wp frame (wpE (defs₀ (F := F)) 𝒱₀ (c : Thread nD τ) none) Set.univ (kk ⟨⟩) Kt)
          -∗ wp frame (wpE (defs₀ (F := F)) 𝒱₀ (c : Thread nD τ) none) Set.univ (.op (.enqueueDma (hv1 M4) (.remote (Dev.tc (⟨k0_dev9 c, k0_dev9_lt c⟩ : Dev nD) : Thread nD τ) (hv1 M7) (.dma sm2) hsc) (.dma sm8) hs hd ht) kk) Kt) :=
  send A K c (sh 3 c) (⟨k0_dev9 c, k0_dev9_lt c⟩ : Dev nD) (dev9 c) 2 8 3 (src := (hv1 M4)) (dst := (hv1 M7)) (hsc := hsc) (hs := hs) (hdst := hd) (ht := ht)
    sm2_eq sm8_eq rfl rfl rfl rfl (A c).ew (A c).ew set41 set71 (pay2 A c)
    ((pay8 A (sh 3 c)).trans (congrArg (fun d => pts (sh 3 c) cc0_scratch1 H1 fullShare (A d).ew) (sh13 c))) (fun fd i hi => wr741 fd _ i hi)
theorem wt3 (n : ℕ) (hl : ∀ i < n, lvs (osem 3) < evl i) {α : Type} {Kt : α → sProp 𝕄} {kk : PUnit → Prog (TpuEff nD τ sig (Elt F) Λ₀ .tc) α}
    {hs : ((hv0 M7) : Memref sig .tc .vmem S256x512 .bf16).view.WordExact} {hd : ((hv0 M4) : Memref sig .tc .vmem S256x512 .bf16).view.WordExact} :
    iprop(info A K ∗ armed c 3 ∗ ow c n)
      ⊢ iprop(((past c 3 ∗ pts c cc0_stg4_0 H0 qRL (A c).ew ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm3 (hv0 M7) (hv0 M4) hs hd) kk) Kt) :=
  wait_own A K c 3 n sm3_eq rfl hl
theorem wt9 (n : ℕ) (hl : ∀ i < n, lvs (osem 9) < evl i) {α : Type} {Kt : α → sProp 𝕄} {kk : PUnit → Prog (TpuEff nD τ sig (Elt F) Λ₀ .tc) α}
    {hs : ((hv0 M4) : Memref sig .tc .vmem S256x512 .bf16).view.WordExact} {hd : ((hv0 M7) : Memref sig .tc .vmem S256x512 .bf16).view.WordExact} :
    iprop(info A K ∗ armed c 9 ∗ ow c n)
      ⊢ iprop(((past c 9 ∗ pts c cc0_scratch1 H0 fullShare (A (sh 1 c)).ew ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm9 (hv0 M4) (hv0 M7) hs hd) kk) Kt) :=
  wait_own A K c 9 n sm9_eq rfl hl
theorem sd3 {α : Type} {Kt : α → sProp 𝕄} {kk : PUnit → Prog (TpuEff nD τ sig (Elt F) Λ₀ .tc) α}
    {hsc : ((hv0 M7) : Memref sig (Dev.tc (⟨k0_dev10 c, k0_dev10_lt c⟩ : Dev nD) : Thread nD τ).2.kind .vmem S256x512 .bf16).view.ref.isScScratch = false}
    {hs : ((hv0 M4) : Memref sig .tc .vmem S256x512 .bf16).view.WordExact} {hd : ((hv0 M7) : Memref sig .tc .vmem S256x512 .bf16).view.WordExact}
    {ht : DmaTarget.Typed .vmem (.dma sm9) (.remote (Dev.tc (⟨k0_dev10 c, k0_dev10_lt c⟩ : Dev nD) : Thread nD τ) ((hv0 M7) : Memref sig .tc .vmem S256x512 .bf16) (.dma sm3) hsc)} :
    iprop(info A K ∗ ready c 3 ∗ tr (sh 3 c) 9 ∗ pts c cc0_stg4_0 H0 qRL (A c).ew ∗ some' (sh 3 c) cc0_scratch1 H0 ∗ ow c 3)
      ⊢ iprop(((armed c 3 ∗ ow c 2) -∗ wp frame (wpE (defs₀ (F := F)) 𝒱₀ (c : Thread nD τ) none) Set.univ (kk ⟨⟩) Kt)
          -∗ wp frame (wpE (defs₀ (F := F)) 𝒱₀ (c : Thread nD τ) none) Set.univ (.op (.enqueueDma (hv0 M4) (.remote (Dev.tc (⟨k0_dev10 c, k0_dev10_lt c⟩ : Dev nD) : Thread nD τ) (hv0 M7) (.dma sm3) hsc) (.dma sm9) hs hd ht) kk) Kt) :=
  send A K c (sh 3 c) (⟨k0_dev10 c, k0_dev10_lt c⟩ : Dev nD) (dev10 c) 3 9 2 (src := (hv0 M4)) (dst := (hv0 M7)) (hsc := hsc) (hs := hs) (hdst := hd) (ht := ht)
    sm3_eq sm9_eq rfl rfl rfl rfl (A c).ew (A c).ew set40 set70 (pay3 A c)
    ((pay9 A (sh 3 c)).trans (congrArg (fun d => pts (sh 3 c) cc0_scratch1 H0 fullShare (A d).ew) (sh13 c))) (fun fd i hi => wr740 fd _ i hi)
theorem wt4 (n : ℕ) (hl : ∀ i < n, lvs (osem 4) < evl i) {α : Type} {Kt : α → sProp 𝕄} {kk : PUnit → Prog (TpuEff nD τ sig (Elt F) Λ₀ .tc) α}
    {hs : ((hv0 M8) : Memref sig .tc .vmem S256x512 .bf16).view.WordExact} {hd : ((hv0 M6) : Memref sig .tc .vmem S256x512 .bf16).view.WordExact} :
    iprop(info A K ∗ armed c 4 ∗ ow c n)
      ⊢ iprop(((past c 4 ∗ pts c cc0_scratch0 H0 qL (A (sh 3 c)).ew ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm4 (hv0 M8) (hv0 M6) hs hd) kk) Kt) :=
  wait_own A K c 4 n sm4_eq rfl hl
theorem wt10 (n : ℕ) (hl : ∀ i < n, lvs (osem 10) < evl i) {α : Type} {Kt : α → sProp 𝕄} {kk : PUnit → Prog (TpuEff nD τ sig (Elt F) Λ₀ .tc) α}
    {hs : ((hv0 M6) : Memref sig .tc .vmem S256x512 .bf16).view.WordExact} {hd : ((hv0 M8) : Memref sig .tc .vmem S256x512 .bf16).view.WordExact} :
    iprop(info A K ∗ armed c 10 ∗ ow c n)
      ⊢ iprop(((past c 10 ∗ pts c cc0_scratch2 H0 fullShare (A (sh 2 c)).ew ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm10 (hv0 M6) (hv0 M8) hs hd) kk) Kt) :=
  wait_own A K c 10 n sm10_eq rfl hl
theorem sd4 {α : Type} {Kt : α → sProp 𝕄} {kk : PUnit → Prog (TpuEff nD τ sig (Elt F) Λ₀ .tc) α}
    {hsc : ((hv0 M8) : Memref sig (Dev.tc (⟨k0_dev11 c, k0_dev11_lt c⟩ : Dev nD) : Thread nD τ).2.kind .vmem S256x512 .bf16).view.ref.isScScratch = false}
    {hs : ((hv0 M6) : Memref sig .tc .vmem S256x512 .bf16).view.WordExact} {hd : ((hv0 M8) : Memref sig .tc .vmem S256x512 .bf16).view.WordExact}
    {ht : DmaTarget.Typed .vmem (.dma sm10) (.remote (Dev.tc (⟨k0_dev11 c, k0_dev11_lt c⟩ : Dev nD) : Thread nD τ) ((hv0 M8) : Memref sig .tc .vmem S256x512 .bf16) (.dma sm4) hsc)} :
    iprop(info A K ∗ ready c 4 ∗ tr (sh 1 c) 10 ∗ pts c cc0_scratch0 H0 qL (A (sh 3 c)).ew ∗ some' (sh 1 c) cc0_scratch2 H0 ∗ ow c 2)
      ⊢ iprop(((armed c 4 ∗ ow c 1) -∗ wp frame (wpE (defs₀ (F := F)) 𝒱₀ (c : Thread nD τ) none) Set.univ (kk ⟨⟩) Kt)
          -∗ wp frame (wpE (defs₀ (F := F)) 𝒱₀ (c : Thread nD τ) none) Set.univ (.op (.enqueueDma (hv0 M6) (.remote (Dev.tc (⟨k0_dev11 c, k0_dev11_lt c⟩ : Dev nD) : Thread nD τ) (hv0 M8) (.dma sm4) hsc) (.dma sm10) hs hd ht) kk) Kt) :=
  send A K c (sh 1 c) (⟨k0_dev11 c, k0_dev11_lt c⟩ : Dev nD) (dev11 c) 4 10 1 (src := (hv0 M6)) (dst := (hv0 M8)) (hsc := hsc) (hs := hs) (hdst := hd) (ht := ht)
    sm4_eq sm10_eq rfl rfl rfl rfl (A (sh 3 c)).ew (A (sh 3 c)).ew set60 set80 (pay4 A c)
    ((pay10 A (sh 1 c)).trans (congrArg (fun d => pts (sh 1 c) cc0_scratch2 H0 fullShare (A d).ew) (sh21 c))) (fun fd i hi => wr860 fd _ i hi)
theorem wt5 (n : ℕ) (hl : ∀ i < n, lvs (osem 5) < evl i) {α : Type} {Kt : α → sProp 𝕄} {kk : PUnit → Prog (TpuEff nD τ sig (Elt F) Λ₀ .tc) α}
    {hs : ((hv1 M8) : Memref sig .tc .vmem S256x512 .bf16).view.WordExact} {hd : ((hv1 M7) : Memref sig .tc .vmem S256x512 .bf16).view.WordExact} :
    iprop(info A K ∗ armed c 5 ∗ ow c n)
      ⊢ iprop(((past c 5 ∗ pts c cc0_scratch1 H1 qL (A (sh 1 c)).ew ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm5 (hv1 M8) (hv1 M7) hs hd) kk) Kt) :=
  wait_own A K c 5 n sm5_eq rfl hl
theorem wt11 (n : ℕ) (hl : ∀ i < n, lvs (osem 11) < evl i) {α : Type} {Kt : α → sProp 𝕄} {kk : PUnit → Prog (TpuEff nD τ sig (Elt F) Λ₀ .tc) α}
    {hs : ((hv1 M7) : Memref sig .tc .vmem S256x512 .bf16).view.WordExact} {hd : ((hv1 M8) : Memref sig .tc .vmem S256x512 .bf16).view.WordExact} :
    iprop(info A K ∗ armed c 11 ∗ ow c n)
      ⊢ iprop(((past c 11 ∗ pts c cc0_scratch2 H1 fullShare (A (sh 2 c)).ew ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm11 (hv1 M7) (hv1 M8) hs hd) kk) Kt) :=
  wait_own A K c 11 n sm11_eq rfl hl
theorem sd5 {α : Type} {Kt : α → sProp 𝕄} {kk : PUnit → Prog (TpuEff nD τ sig (Elt F) Λ₀ .tc) α}
    {hsc : ((hv1 M8) : Memref sig (Dev.tc (⟨k0_dev12 c, k0_dev12_lt c⟩ : Dev nD) : Thread nD τ).2.kind .vmem S256x512 .bf16).view.ref.isScScratch = false}
    {hs : ((hv1 M7) : Memref sig .tc .vmem S256x512 .bf16).view.WordExact} {hd : ((hv1 M8) : Memref sig .tc .vmem S256x512 .bf16).view.WordExact}
    {ht : DmaTarget.Typed .vmem (.dma sm11) (.remote (Dev.tc (⟨k0_dev12 c, k0_dev12_lt c⟩ : Dev nD) : Thread nD τ) ((hv1 M8) : Memref sig .tc .vmem S256x512 .bf16) (.dma sm5) hsc)} :
    iprop(info A K ∗ ready c 5 ∗ tr (sh 3 c) 11 ∗ pts c cc0_scratch1 H1 qL (A (sh 1 c)).ew ∗ some' (sh 3 c) cc0_scratch2 H1 ∗ ow c 1)
      ⊢ iprop(((armed c 5 ∗ ow c 0) -∗ wp frame (wpE (defs₀ (F := F)) 𝒱₀ (c : Thread nD τ) none) Set.univ (kk ⟨⟩) Kt)
          -∗ wp frame (wpE (defs₀ (F := F)) 𝒱₀ (c : Thread nD τ) none) Set.univ (.op (.enqueueDma (hv1 M7) (.remote (Dev.tc (⟨k0_dev12 c, k0_dev12_lt c⟩ : Dev nD) : Thread nD τ) (hv1 M8) (.dma sm5) hsc) (.dma sm11) hs hd ht) kk) Kt) :=
  send A K c (sh 3 c) (⟨k0_dev12 c, k0_dev12_lt c⟩ : Dev nD) (dev12 c) 5 11 0 (src := (hv1 M7)) (dst := (hv1 M8)) (hsc := hsc) (hs := hs) (hdst := hd) (ht := ht)
    sm5_eq sm11_eq rfl rfl rfl rfl (A (sh 1 c)).ew (A (sh 1 c)).ew set71 set81 (pay5 A c)
    ((pay11 A (sh 3 c)).trans (congrArg (fun d => pts (sh 3 c) cc0_scratch2 H1 fullShare (A d).ew) (sh23 c))) (fun fd i hi => wr871 fd _ i hi)
theorem wt12 (n : ℕ) (hl : ∀ i < n, lvs (osem 12) < evl i) {α : Type} {Kt : α → sProp 𝕄} {kk : PUnit → Prog (TpuEff nD τ sig (Elt F) Λ₀ .tc) α}
    {hs : (cv0 : Memref sig .tc .vmem S1x8 .f32).view.WordExact} {hd : (M3 : Memref sig .tc .vmem S1x8 .f32).view.WordExact} :
    iprop(info A K ∗ armed c 12 ∗ ow c n)
      ⊢ iprop(((past c 12 ∗ pts c cc0_stg3_0 Finset.univ qL (A c).cn ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm12 cv0 M3 hs hd) kk) Kt) :=
  wait_own A K c 12 n sm12_eq rfl hl
theorem wt15 (n : ℕ) (hl : ∀ i < n, lvs (osem 15) < evl i) {α : Type} {Kt : α → sProp 𝕄} {kk : PUnit → Prog (TpuEff nD τ sig (Elt F) Λ₀ .tc) α}
    {hs : (M3 : Memref sig .tc .vmem S1x8 .f32).view.WordExact} {hd : (cv0 : Memref sig .tc .vmem S1x8 .f32).view.WordExact} :
    iprop(info A K ∗ armed c 15 ∗ ow c n)
      ⊢ iprop(((past c 15 ∗ pts c cc0_scratch3 C0 fullShare (slots (A (sh 3 c)).cn) ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm15 M3 cv0 hs hd) kk) Kt) :=
  wait_own A K c 15 n sm15_eq rfl hl
theorem sd12 {α : Type} {Kt : α → sProp 𝕄} {kk : PUnit → Prog (TpuEff nD τ sig (Elt F) Λ₀ .tc) α}
    {hsc : (cv0 : Memref sig (Dev.tc (⟨k0_dev4 c, k0_dev4_lt c⟩ : Dev nD) : Thread nD τ).2.kind .vmem S1x8 .f32).view.ref.isScScratch = false}
    {hs : (M3 : Memref sig .tc .vmem S1x8 .f32).view.WordExact} {hd : (cv0 : Memref sig .tc .vmem S1x8 .f32).view.WordExact}
    {ht : DmaTarget.Typed .vmem (.dma sm15) (.remote (Dev.tc (⟨k0_dev4 c, k0_dev4_lt c⟩ : Dev nD) : Thread nD τ) (cv0 : Memref sig .tc .vmem S1x8 .f32) (.dma sm12) hsc)} :
    iprop(info A K ∗ ready c 12 ∗ tr (sh 1 c) 15 ∗ pts c cc0_stg3_0 Finset.univ qL (A c).cn ∗ some' (sh 1 c) cc0_scratch3 C0 ∗ ow c 9)
      ⊢ iprop(((armed c 12 ∗ ow c 8) -∗ wp frame (wpE (defs₀ (F := F)) 𝒱₀ (c : Thread nD τ) none) Set.univ (kk ⟨⟩) Kt)
          -∗ wp frame (wpE (defs₀ (F := F)) 𝒱₀ (c : Thread nD τ) none) Set.univ (.op (.enqueueDma M3 (.remote (Dev.tc (⟨k0_dev4 c, k0_dev4_lt c⟩ : Dev nD) : Thread nD τ) cv0 (.dma sm12) hsc) (.dma sm15) hs hd ht) kk) Kt) :=
  send A K c (sh 1 c) (⟨k0_dev4 c, k0_dev4_lt c⟩ : Dev nD) (dev4 c) 12 15 8 (src := M3) (dst := cv0) (hsc := hsc) (hs := hs) (hdst := hd) (ht := ht)
    sm12_eq sm15_eq rfl rfl rfl rfl (A c).cn (slots (A c).cn) set3 setc0 (pay12 A c)
    ((pay15 A (sh 1 c)).trans (congrArg (fun d => pts (sh 1 c) cc0_scratch3 C0 fullShare (slots (A d).cn)) (sh31 c))) (fun fd i hi => wrc0 fd _ i hi)
theorem wt13 (n : ℕ) (hl : ∀ i < n, lvs (osem 13) < evl i) {α : Type} {Kt : α → sProp 𝕄} {kk : PUnit → Prog (TpuEff nD τ sig (Elt F) Λ₀ .tc) α}
    {hs : (cv1 : Memref sig .tc .vmem S1x8 .f32).view.WordExact} {hd : (M3 : Memref sig .tc .vmem S1x8 .f32).view.WordExact} :
    iprop(info A K ∗ armed c 13 ∗ ow c n)
      ⊢ iprop(((past c 13 ∗ pts c cc0_stg3_0 Finset.univ qRL (A c).cn ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm13 cv1 M3 hs hd) kk) Kt) :=
  wait_own A K c 13 n sm13_eq rfl hl
theorem wt16 (n : ℕ) (hl : ∀ i < n, lvs (osem 16) < evl i) {α : Type} {Kt : α → sProp 𝕄} {kk : PUnit → Prog (TpuEff nD τ sig (Elt F) Λ₀ .tc) α}
    {hs : (M3 : Memref sig .tc .vmem S1x8 .f32).view.WordExact} {hd : (cv1 : Memref sig .tc .vmem S1x8 .f32).view.WordExact} :
    iprop(info A K ∗ armed c 16 ∗ ow c n)
      ⊢ iprop(((past c 16 ∗ pts c cc0_scratch3 C1 fullShare (slots (A (sh 2 c)).cn) ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm16 M3 cv1 hs hd) kk) Kt) :=
  wait_own A K c 16 n sm16_eq rfl hl
theorem sd13 {α : Type} {Kt : α → sProp 𝕄} {kk : PUnit → Prog (TpuEff nD τ sig (Elt F) Λ₀ .tc) α}
    {hsc : (cv1 : Memref sig (Dev.tc (⟨k0_dev5 c, k0_dev5_lt c⟩ : Dev nD) : Thread nD τ).2.kind .vmem S1x8 .f32).view.ref.isScScratch = false}
    {hs : (M3 : Memref sig .tc .vmem S1x8 .f32).view.WordExact} {hd : (cv1 : Memref sig .tc .vmem S1x8 .f32).view.WordExact}
    {ht : DmaTarget.Typed .vmem (.dma sm16) (.remote (Dev.tc (⟨k0_dev5 c, k0_dev5_lt c⟩ : Dev nD) : Thread nD τ) (cv1 : Memref sig .tc .vmem S1x8 .f32) (.dma sm13) hsc)} :
    iprop(info A K ∗ ready c 13 ∗ tr (sh 2 c) 16 ∗ pts c cc0_stg3_0 Finset.univ qRL (A c).cn ∗ some' (sh 2 c) cc0_scratch3 C1 ∗ ow c 8)
      ⊢ iprop(((armed c 13 ∗ ow c 7) -∗ wp frame (wpE (defs₀ (F := F)) 𝒱₀ (c : Thread nD τ) none) Set.univ (kk ⟨⟩) Kt)
          -∗ wp frame (wpE (defs₀ (F := F)) 𝒱₀ (c : Thread nD τ) none) Set.univ (.op (.enqueueDma M3 (.remote (Dev.tc (⟨k0_dev5 c, k0_dev5_lt c⟩ : Dev nD) : Thread nD τ) cv1 (.dma sm13) hsc) (.dma sm16) hs hd ht) kk) Kt) :=
  send A K c (sh 2 c) (⟨k0_dev5 c, k0_dev5_lt c⟩ : Dev nD) (dev5 c) 13 16 7 (src := M3) (dst := cv1) (hsc := hsc) (hs := hs) (hdst := hd) (ht := ht)
    sm13_eq sm16_eq rfl rfl rfl rfl (A c).cn (slots (A c).cn) set3 setc1 (pay13 A c)
    ((pay16 A (sh 2 c)).trans (congrArg (fun d => pts (sh 2 c) cc0_scratch3 C1 fullShare (slots (A d).cn)) (sh22 c))) (fun fd i hi => wrc1 fd _ i hi)
theorem wt14 (n : ℕ) (hl : ∀ i < n, lvs (osem 14) < evl i) {α : Type} {Kt : α → sProp 𝕄} {kk : PUnit → Prog (TpuEff nD τ sig (Elt F) Λ₀ .tc) α}
    {hs : (cv2 : Memref sig .tc .vmem S1x8 .f32).view.WordExact} {hd : (M3 : Memref sig .tc .vmem S1x8 .f32).view.WordExact} :
    iprop(info A K ∗ armed c 14 ∗ ow c n)
      ⊢ iprop(((past c 14 ∗ pts c cc0_stg3_0 Finset.univ qRR (A c).cn ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm14 cv2 M3 hs hd) kk) Kt) :=
  wait_own A K c 14 n sm14_eq rfl hl
theorem wt17 (n : ℕ) (hl : ∀ i < n, lvs (osem 17) < evl i) {α : Type} {Kt : α → sProp 𝕄} {kk : PUnit → Prog (TpuEff nD τ sig (Elt F) Λ₀ .tc) α}
    {hs : (M3 : Memref sig .tc .vmem S1x8 .f32).view.WordExact} {hd : (cv2 : Memref sig .tc .vmem S1x8 .f32).view.WordExact} :
    iprop(info A K ∗ armed c 17 ∗ ow c n)
      ⊢ iprop(((past c 17 ∗ pts c cc0_scratch3 C2 fullShare (slots (A (sh 1 c)).cn) ∗ ow c n) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm17 M3 cv2 hs hd) kk) Kt) :=
  wait_own A K c 17 n sm17_eq rfl hl
theorem sd14 {α : Type} {Kt : α → sProp 𝕄} {kk : PUnit → Prog (TpuEff nD τ sig (Elt F) Λ₀ .tc) α}
    {hsc : (cv2 : Memref sig (Dev.tc (⟨k0_dev6 c, k0_dev6_lt c⟩ : Dev nD) : Thread nD τ).2.kind .vmem S1x8 .f32).view.ref.isScScratch = false}
    {hs : (M3 : Memref sig .tc .vmem S1x8 .f32).view.WordExact} {hd : (cv2 : Memref sig .tc .vmem S1x8 .f32).view.WordExact}
    {ht : DmaTarget.Typed .vmem (.dma sm17) (.remote (Dev.tc (⟨k0_dev6 c, k0_dev6_lt c⟩ : Dev nD) : Thread nD τ) (cv2 : Memref sig .tc .vmem S1x8 .f32) (.dma sm14) hsc)} :
    iprop(info A K ∗ ready c 14 ∗ tr (sh 3 c) 17 ∗ pts c cc0_stg3_0 Finset.univ qRR (A c).cn ∗ some' (sh 3 c) cc0_scratch3 C2 ∗ ow c 7)
      ⊢ iprop(((armed c 14 ∗ ow c 6) -∗ wp frame (wpE (defs₀ (F := F)) 𝒱₀ (c : Thread nD τ) none) Set.univ (kk ⟨⟩) Kt)
          -∗ wp frame (wpE (defs₀ (F := F)) 𝒱₀ (c : Thread nD τ) none) Set.univ (.op (.enqueueDma M3 (.remote (Dev.tc (⟨k0_dev6 c, k0_dev6_lt c⟩ : Dev nD) : Thread nD τ) cv2 (.dma sm14) hsc) (.dma sm17) hs hd ht) kk) Kt) :=
  send A K c (sh 3 c) (⟨k0_dev6 c, k0_dev6_lt c⟩ : Dev nD) (dev6 c) 14 17 6 (src := M3) (dst := cv2) (hsc := hsc) (hs := hs) (hdst := hd) (ht := ht)
    sm14_eq sm17_eq rfl rfl rfl rfl (A c).cn (slots (A c).cn) set3 setc2 (pay14 A c)
    ((pay17 A (sh 3 c)).trans (congrArg (fun d => pts (sh 3 c) cc0_scratch3 C2 fullShare (slots (A d).cn)) (sh13 c))) (fun fd i hi => wrc2 fd _ i hi)

end Cert.Moe
-- ==== Proof.Parts.lean ====
/-
The parts of one device's run, in order: each says what it takes and what it leaves.
-/
module

public import proofs.«01_k».proof.Proof.Channels

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The device's place on the ring, as the kernel computes it, and the values it works with -/

abbrev wMy (c : Dev nD) : BitVec 32 := Scalar.remsi (Scalar.divsi (Dev.word c) 1#32) 4#32
abbrev wR (c : Dev nD) : BitVec 32 := Scalar.remsi (Scalar.addi (wMy c) 1#32) 4#32
abbrev wL (c : Dev nD) : BitVec 32 := Scalar.remsi (Scalar.addi (wMy c) 3#32) 4#32
abbrev wD (c : Dev nD) : BitVec 32 := Scalar.remsi (Scalar.addi (wMy c) 2#32) 4#32

variable (A : Dev nD → Ins F) (K : GSem nD τ sig → ℕ) (c : Dev nD)

/-- The tokens the devices before this one hold, per expert, without the opposite neighbour's. -/
abbrev base2 : FVec F S1x8 .f32 := k0_pay2 (wMy c) (cslot0 (A (sh 3 c)).cn) (cslot1 (A (sh 2 c)).cn)
/-- The experts of the device's tokens, and the mask of those within the capacity. -/
abbrev rtv : IVec S512x1 32 := k0_pay3 (A c).rt
abbrev keepv : FVec F S512x1 .f32 := k0_pay4 (wMy c) (base2 A c) 3#32 (cslot2 (A (sh 1 c)).cn) (A c).rt (A c).ex
abbrev keepb : FVec F S512x1 .bf16 := k0_pay8 (wMy c) (base2 A c) 3#32 (cslot2 (A (sh 1 c)).cn) (A c).rt (A c).ex
abbrev xv : FVec F S512x256 .bf16 := k0_pay5 (A c).x
/-- The output after the device's own two experts, and after each of the other devices' two. -/
abbrev out1 : Vec F S512x512 .f32 :=
  k0_pay9 (rtv A c) (keepv A c) (xv A c) (k0_pay6 (slab0 (A c).ew)) (k0_pay7 (slab1 (A c).ew)) (Scalar.muli 2#32 (wMy c)) (keepb A c) 1#32
abbrev out2 : Vec F S512x512 .f32 :=
  k0_pay12 (wL c) (rtv A c) (keepv A c) (xv A c) (k0_pay10 (out1 A c)) (k0_pay11 (slab0 (A (sh 3 c)).ew)) (slab1 (A (sh 3 c)).ew)
abbrev out3 : Vec F S512x512 .f32 :=
  k0_pay13 (wR c) (rtv A c) (keepv A c) (xv A c) (out2 A c) (slab0 (A (sh 1 c)).ew) (slab1 (A (sh 1 c)).ew)
abbrev out4 : Vec F S512x512 .f32 :=
  k0_pay1 (wD c) (rtv A c) (keepv A c) (xv A c) (out3 A c) (slab0 (A (sh 2 c)).ew) (slab1 (A (sh 2 c)).ew)

/-! ## What the run takes and leaves -/

abbrev btok (p : Dev nD) (d : Fin 3) : sProp 𝕄 := iprop(dutyTok ER (barCell p) 0 d ∗ reached ER (barCell p) 0)
abbrev barArmed (p : Dev nD) : sProp 𝕄 := iprop(cred (tallyAt (barCell p) () 3) ∗ atPos ER (barCell p) 0 ∅ 0)
abbrev barPast (p : Dev nD) : sProp 𝕄 := atPos ER (barCell p) (0 + 1) ∅ 0
/-- The device's tokens, their experts and ranks. -/
abbrev inp : sProp 𝕄 := iprop(pts c cc0_stg1_0 Finset.univ fullShare (A c).rt ∗ pts c cc0_stg2_0 Finset.univ fullShare (A c).ex
  ∗ pts c cc0_stg0_0 Finset.univ fullShare (A c).x)
abbrev outp (f : S512x512.Idx → Elt F .f32) : sProp 𝕄 := pts c cc0_stg5_0 Finset.univ fullShare f
/-- The kept rest of a lent share. -/
abbrev qR : PosShare TreeShare := fullShare.right

/-- The meeting at the barrier: every device hands its places to the devices that fill them. -/
theorem part1 {Kt : _ → sProp 𝕄} :
    iprop(info A K ∗ btok (sh 1 c) 0
        ∗ btok (sh 2 c) 1
        ∗ btok (sh 3 c) 2
        ∗ barArmed c
        ∗ give c 0
        ∗ give c 1
        ∗ give c 2
        ∗ ow c 12)
      ⊢ iprop(((barPast c
          ∗ give (sh 3 c) 0
          ∗ give (sh 2 c) 1
          ∗ give (sh 1 c) 2
          ∗ ow c 9) -∗ Kt ⟨c, wMy c, wR c, wL c, wD c, wR c, 1#32⟩)
        -∗ wp frame (wpE (defs₀ (F := F)) 𝒱₀ (c : Thread nD τ) none) Set.univ
            (k0_part1 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7) Kt) := by
  simp only [k0_part1_eq_skeleton]; unfold k0_part1_skel
  simp only [semSignalWord, semWaitWord, Prog.lift, Prog.bind_op, Prog.bind_ret, Prog.pure_eq_ret, wp_deviceId]
  iintro ⟨#HI, Hb0, Hb1, Hb2, Hb, Hg0, Hg1, Hg2, ⟨%W, HO⟩⟩ Hk
  simp only [dev1 c]
  iapply (Rounds.wp_signal 𝒱₀ ER (Rd A) (c : Thread nD τ) none (dst := (sh 1 c : Thread nD τ)) (r := 0) (d := 0) (κ := K (barCell (sh 1 c)))
      (by rw [duties_bar]; exact Finset.mem_univ _) ((amount_bar A (sh 1 c) 0).trans (by decide)) () (owed c 11) rfl) $$ [HO Hb0 Hg0]
  · icases Hb0 with ⟨Hb, #Hr⟩
    isplitr; · iapply (info_cell A K (mem_bar (sh 1 c))); iexact HI
    isplitl [HO]; · iexact HO
    isplitl [Hb]; · iexact Hb
    isplitl [Hg0]
    · rw [payload_bar]; unfold barPay
      iapply (Entails.of_eq (congrArg (fun p => give (F := F) p 0) (sh31 c).symm)); iexact Hg0
    · iexact Hr
  iintro HO
  simp only [dev2 c]
  iapply (Rounds.wp_signal 𝒱₀ ER (Rd A) (c : Thread nD τ) none (dst := (sh 2 c : Thread nD τ)) (r := 0) (d := 1) (κ := K (barCell (sh 2 c)))
      (by rw [duties_bar]; exact Finset.mem_univ _) ((amount_bar A (sh 2 c) 1).trans (by decide)) () (owed c 10) rfl) $$ [HO Hb1 Hg1]
  · icases Hb1 with ⟨Hb, #Hr⟩
    isplitr; · iapply (info_cell A K (mem_bar (sh 2 c))); iexact HI
    isplitl [HO]; · iexact HO
    isplitl [Hb]; · iexact Hb
    isplitl [Hg1]
    · rw [payload_bar]; unfold barPay
      iapply (Entails.of_eq (congrArg (fun p => give (F := F) p 1) (sh22 c).symm)); iexact Hg1
    · iexact Hr
  iintro HO
  simp only [dev3 c]
  iapply (Rounds.wp_signal 𝒱₀ ER (Rd A) (c : Thread nD τ) none (dst := (sh 3 c : Thread nD τ)) (r := 0) (d := 2) (κ := K (barCell (sh 3 c)))
      (by rw [duties_bar]; exact Finset.mem_univ _) ((amount_bar A (sh 3 c) 2).trans (by decide)) () (owed c 9) rfl) $$ [HO Hb2 Hg2]
  · icases Hb2 with ⟨Hb, #Hr⟩
    isplitr; · iapply (info_cell A K (mem_bar (sh 3 c))); iexact HI
    isplitl [HO]; · iexact HO
    isplitl [Hb]; · iexact Hb
    isplitl [Hg2]
    · rw [payload_bar]; unfold barPay
      iapply (Entails.of_eq (congrArg (fun p => give (F := F) p 2) (sh13 c).symm)); iexact Hg2
    · iexact Hr
  iintro HO
  icases Hb with ⟨Hc, Hat⟩
  iapply (Rounds.wp_wait_rest_token 𝒱₀ ER (Rd A) (c : Thread nD τ) none (κ := K (barCell c))
      (wpE_semWait_eq 𝒱₀ (c : Thread nD τ) none Set.univ) (Set.mem_univ _) () (O := owed c 9) (W := W) (R := 0) (m := 0) (T := ∅)
      (by rw [expect_bar]; decide)) $$ [Hc HO Hat]
  · isplitr; · iapply (info_cell A K (mem_bar c)); iexact HI
    isplitl [Hc]; · iexact Hc
    isplitl [HO]; · iexact HO
    isplitr; · iapply (mayWait c (.reg barS) 9 (by decide)); iapply (info_lev A K); iexact HI
    iexact Hat
  iintro ⟨HO, Hz, -, Hpay⟩
  ihave Hp := (Entails.of_eq (rest_bar A c)) $$ Hpay
  icases Hp with ⟨Hp0, Hp1, Hp2⟩
  rw [wp_ret]; imodintro
  iapply Hk
  isplitl [Hz]; · iexact Hz
  isplitl [Hp0]; · iexact Hp0
  isplitl [Hp1]; · iexact Hp1
  isplitl [Hp2]; · iexact Hp2
  iexists _; iexact HO

/-- The counts go to the three other devices. -/
theorem part2 {Kt : _ → sProp 𝕄} (v2 v4 v23 w1 : BitVec 32) :
    iprop(info A K ∗ ready c 12
        ∗ tr (sh 1 c) 15
        ∗ some' (sh 1 c) cc0_scratch3 C0
        ∗ pts c cc0_stg3_0 Finset.univ qL (A c).cn
        ∗ ready c 13
        ∗ tr (sh 2 c) 16
        ∗ some' (sh 2 c) cc0_scratch3 C1
        ∗ pts c cc0_stg3_0 Finset.univ qRL (A c).cn
        ∗ ready c 14
        ∗ tr (sh 3 c) 17
        ∗ some' (sh 3 c) cc0_scratch3 C2
        ∗ pts c cc0_stg3_0 Finset.univ qRR (A c).cn
        ∗ ow c 9)
      ⊢ iprop(((armed c 12
          ∗ armed c 13
          ∗ armed c 14
          ∗ ow c 6) -∗ Kt ⟨Scalar.remsi (Scalar.addi v2 2#32) 4#32, Scalar.remsi (Scalar.addi v2 3#32) 4#32⟩)
        -∗ wp frame (wpE (defs₀ (F := F)) 𝒱₀ (c : Thread nD τ) none) Set.univ
            (k0_part2 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7 c v2 v4 v23 w1) Kt) := by
  simp only [k0_part2_eq_skeleton]; unfold k0_part2_skel
  simp only [semSignalWord, semWaitWord, Prog.lift, Prog.bind_op, Prog.bind_ret, Prog.pure_eq_ret, wp_deviceId]
  iintro ⟨#HI, Hr12, Ht15, Hd12, Hs12, Hr13, Ht16, Hd13, Hs13, Hr14, Ht17, Hd14, Hs14, HO⟩ Hk
  iapply (sd12 A K c) $$ [Hr12 Ht15 Hs12 Hd12 HO]
  · isplitr; · iexact HI
    isplitl [Hr12]; · iexact Hr12
    isplitl [Ht15]; · iexact Ht15
    isplitl [Hs12]; · iexact Hs12
    isplitl [Hd12]; · iexact Hd12
    iexact HO
  iintro ⟨Ha12, HO⟩
  iapply (sd13 A K c) $$ [Hr13 Ht16 Hs13 Hd13 HO]
  · isplitr; · iexact HI
    isplitl [Hr13]; · iexact Hr13
    isplitl [Ht16]; · iexact Ht16
    isplitl [Hs13]; · iexact Hs13
    isplitl [Hd13]; · iexact Hd13
    iexact HO
  iintro ⟨Ha13, HO⟩
  iapply (sd14 A K c) $$ [Hr14 Ht17 Hs14 Hd14 HO]
  · isplitr; · iexact HI
    isplitl [Hr14]; · iexact Hr14
    isplitl [Ht17]; · iexact Ht17
    isplitl [Hs14]; · iexact Hs14
    isplitl [Hd14]; · iexact Hd14
    iexact HO
  iintro ⟨Ha14, HO⟩
  rw [wp_ret]; imodintro
  iapply Hk
  isplitl [Ha12]; · iexact Ha12
  isplitl [Ha13]; · iexact Ha13
  isplitl [Ha14]; · iexact Ha14
  iexact HO

/-- Both weight blocks go right, the second one left. -/
theorem part3 {Kt : _ → sProp 𝕄} (v4 v6 : BitVec 32) :
    iprop(info A K ∗ ready c 0
        ∗ tr (sh 1 c) 6
        ∗ some' (sh 1 c) cc0_scratch0 H0
        ∗ pts c cc0_stg4_0 H0 qL (A c).ew
        ∗ ready c 1
        ∗ tr (sh 1 c) 7
        ∗ some' (sh 1 c) cc0_scratch0 H1
        ∗ pts c cc0_stg4_0 H1 qL (A c).ew
        ∗ ready c 2
        ∗ tr (sh 3 c) 8
        ∗ some' (sh 3 c) cc0_scratch1 H1
        ∗ pts c cc0_stg4_0 H1 qRL (A c).ew
        ∗ ow c 6)
      ⊢ iprop(((armed c 0
          ∗ armed c 1
          ∗ armed c 2
          ∗ ow c 3) -∗ Kt 1#32)
        -∗ wp frame (wpE (defs₀ (F := F)) 𝒱₀ (c : Thread nD τ) none) Set.univ
            (k0_part3 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7 c v4 v6) Kt) := by
  simp only [k0_part3_eq_skeleton]; unfold k0_part3_skel
  simp only [semSignalWord, semWaitWord, Prog.lift, Prog.bind_op, Prog.bind_ret, Prog.pure_eq_ret, wp_deviceId]
  iintro ⟨#HI, Hr0, Ht6, Hd0, Hs0, Hr1, Ht7, Hd1, Hs1, Hr2, Ht8, Hd2, Hs2, HO⟩ Hk
  iapply (sd0 A K c) $$ [Hr0 Ht6 Hs0 Hd0 HO]
  · isplitr; · iexact HI
    isplitl [Hr0]; · iexact Hr0
    isplitl [Ht6]; · iexact Ht6
    isplitl [Hs0]; · iexact Hs0
    isplitl [Hd0]; · iexact Hd0
    iexact HO
  iintro ⟨Ha0, HO⟩
  iapply (sd1 A K c) $$ [Hr1 Ht7 Hs1 Hd1 HO]
  · isplitr; · iexact HI
    isplitl [Hr1]; · iexact Hr1
    isplitl [Ht7]; · iexact Ht7
    isplitl [Hs1]; · iexact Hs1
    isplitl [Hd1]; · iexact Hd1
    iexact HO
  iintro ⟨Ha1, HO⟩
  iapply (sd2 A K c) $$ [Hr2 Ht8 Hs2 Hd2 HO]
  · isplitr; · iexact HI
    isplitl [Hr2]; · iexact Hr2
    isplitl [Ht8]; · iexact Ht8
    isplitl [Hs2]; · iexact Hs2
    isplitl [Hd2]; · iexact Hd2
    iexact HO
  iintro ⟨Ha2, HO⟩
  rw [wp_ret]; imodintro
  iapply Hk
  isplitl [Ha0]; · iexact Ha0
  isplitl [Ha1]; · iexact Ha1
  isplitl [Ha2]; · iexact Ha2
  iexact HO

/-- The first weight block goes left; the first counts arrive. -/
theorem part4 {Kt : _ → sProp 𝕄} (v6 v23 v33 w1 : BitVec 32) :
    iprop(info A K ∗ ready c 3
        ∗ tr (sh 3 c) 9
        ∗ some' (sh 3 c) cc0_scratch1 H0
        ∗ pts c cc0_stg4_0 H0 qRL (A c).ew
        ∗ armed c 12
        ∗ armed c 15
        ∗ armed c 13
        ∗ ow c 3)
      ⊢ iprop(((armed c 3
          ∗ past c 12
          ∗ pts c cc0_stg3_0 Finset.univ qL (A c).cn
          ∗ past c 15
          ∗ pts c cc0_scratch3 C0 fullShare (slots (A (sh 3 c)).cn)
          ∗ past c 13
          ∗ pts c cc0_stg3_0 Finset.univ qRL (A c).cn
          ∗ ow c 2) -∗ Kt ⟨⟩)
        -∗ wp frame (wpE (defs₀ (F := F)) 𝒱₀ (c : Thread nD τ) none) Set.univ
            (k0_part4 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7 c v6 v23 v33 w1) Kt) := by
  simp only [k0_part4_eq_skeleton]; unfold k0_part4_skel
  simp only [semSignalWord, semWaitWord, Prog.lift, Prog.bind_op, Prog.bind_ret, Prog.pure_eq_ret, wp_deviceId]
  iintro ⟨#HI, Hr3, Ht9, Hd3, Hs3, Ha12, Ha15, Ha13, HO⟩ Hk
  iapply (sd3 A K c) $$ [Hr3 Ht9 Hs3 Hd3 HO]
  · isplitr; · iexact HI
    isplitl [Hr3]; · iexact Hr3
    isplitl [Ht9]; · iexact Ht9
    isplitl [Hs3]; · iexact Hs3
    isplitl [Hd3]; · iexact Hd3
    iexact HO
  iintro ⟨Ha3, HO⟩
  iapply (wt12 A K c 2 (by decide)) $$ [Ha12 HO]
  · isplitr; · iexact HI
    isplitl [Ha12]; · iexact Ha12
    iexact HO
  iintro ⟨Hz12, Hp12, HO⟩
  iapply (wt15 A K c 2 (by decide)) $$ [Ha15 HO]
  · isplitr; · iexact HI
    isplitl [Ha15]; · iexact Ha15
    iexact HO
  iintro ⟨Hz15, Hp15, HO⟩
  iapply (wt13 A K c 2 (by decide)) $$ [Ha13 HO]
  · isplitr; · iexact HI
    isplitl [Ha13]; · iexact Ha13
    iexact HO
  iintro ⟨Hz13, Hp13, HO⟩
  rw [wp_ret]; imodintro
  iapply Hk
  isplitl [Ha3]; · iexact Ha3
  isplitl [Hz12]; · iexact Hz12
  isplitl [Hp12]; · iexact Hp12
  isplitl [Hz15]; · iexact Hz15
  isplitl [Hp15]; · iexact Hp15
  isplitl [Hz13]; · iexact Hz13
  isplitl [Hp13]; · iexact Hp13
  iexact HO

/-- The other counts arrive. -/
theorem part5 {Kt : _ → sProp 𝕄} (v43 : BitVec 32) :
    iprop(info A K ∗ armed c 16
        ∗ armed c 14
        ∗ armed c 17
        ∗ pts c cc0_scratch3 C0 fullShare (slots (A (sh 3 c)).cn)
        ∗ ow c 2)
      ⊢ iprop(((past c 16
          ∗ pts c cc0_scratch3 C1 fullShare (slots (A (sh 2 c)).cn)
          ∗ past c 14
          ∗ pts c cc0_stg3_0 Finset.univ qRR (A c).cn
          ∗ past c 17
          ∗ pts c cc0_scratch3 C2 fullShare (slots (A (sh 1 c)).cn)
          ∗ pts c cc0_scratch3 C0 fullShare (slots (A (sh 3 c)).cn)
          ∗ ow c 2) -∗ Kt ⟨base2 A c, 3#32⟩)
        -∗ wp frame (wpE (defs₀ (F := F)) 𝒱₀ (c : Thread nD τ) none) Set.univ
            (k0_part5 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7 (wMy c) v43) Kt) := by
  simp only [k0_part5_eq_skeleton]; unfold k0_part5_skel
  simp only [semSignalWord, semWaitWord, Prog.lift, Prog.bind_op, Prog.bind_ret, Prog.pure_eq_ret, wp_deviceId]
  iintro ⟨#HI, Ha16, Ha14, Ha17, Hp15, HO⟩ Hk
  iapply (wt16 A K c 2 (by decide)) $$ [Ha16 HO]
  · isplitr; · iexact HI
    isplitl [Ha16]; · iexact Ha16
    iexact HO
  iintro ⟨Hz16, Hp16, HO⟩
  iapply (wt14 A K c 2 (by decide)) $$ [Ha14 HO]
  · isplitr; · iexact HI
    isplitl [Ha14]; · iexact Ha14
    iexact HO
  iintro ⟨Hz14, Hp14, HO⟩
  iapply (wt17 A K c 2 (by decide)) $$ [Ha17 HO]
  · isplitr; · iexact HI
    isplitl [Ha17]; · iexact Ha17
    iexact HO
  iintro ⟨Hz17, Hp17, HO⟩
  iapply (load90 c fullShare (A (sh 3 c)).cn) $$ Hp15; iintro Hp15
  iapply (load91 c fullShare (A (sh 2 c)).cn) $$ Hp16; iintro Hp16
  rw [wp_ret]; imodintro
  iapply Hk
  isplitl [Hz16]; · iexact Hz16
  isplitl [Hp16]; · iexact Hp16
  isplitl [Hz14]; · iexact Hz14
  isplitl [Hp14]; · iexact Hp14
  isplitl [Hz17]; · iexact Hz17
  isplitl [Hp17]; · iexact Hp17
  isplitl [Hp15]; · iexact Hp15
  iexact HO

/-- The mask of tokens within the capacity is computed. -/
theorem part6 {Kt : _ → sProp 𝕄} :
    iprop(info A K ∗ pts c cc0_scratch3 C2 fullShare (slots (A (sh 1 c)).cn)
        ∗ inp A c
        ∗ pts c cc0_stg4_0 H0 qRR (A c).ew
        ∗ pts c cc0_stg4_0 H1 qRR (A c).ew)
      ⊢ iprop(((pts c cc0_scratch3 C2 fullShare (slots (A (sh 1 c)).cn)
          ∗ inp A c
          ∗ pts c cc0_stg4_0 H0 qRR (A c).ew
          ∗ pts c cc0_stg4_0 H1 qRR (A c).ew) -∗ Kt ⟨rtv A c, keepv A c, xv A c, k0_pay6 (slab0 (A c).ew), k0_pay7 (slab1 (A c).ew), Scalar.muli 2#32 (wMy c), keepb A c, 1#32⟩)
        -∗ wp frame (wpE (defs₀ (F := F)) 𝒱₀ (c : Thread nD τ) none) Set.univ
            (k0_part6 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7 (wMy c) (base2 A c) 3#32) Kt) := by
  simp only [k0_part6_eq_skeleton]; unfold k0_part6_skel
  simp only [semSignalWord, semWaitWord, Prog.lift, Prog.bind_op, Prog.bind_ret, Prog.pure_eq_ret, wp_deviceId]
  iintro ⟨#HI, Hp17, ⟨Hi1, Hi2, Hi0⟩, H40, H41⟩ Hk
  iapply (load92 c fullShare (A (sh 1 c)).cn) $$ Hp17; iintro Hp17
  iapply (load1 c fullShare (A c).rt) $$ Hi1; iintro Hi1
  iapply (load2 c fullShare (A c).ex) $$ Hi2; iintro Hi2
  iapply (load0 c fullShare (A c).x) $$ Hi0; iintro Hi0
  iapply (load40 c qRR (A c).ew) $$ H40; iintro H40
  iapply (load41 c qRR (A c).ew) $$ H41; iintro H41
  rw [wp_ret]; imodintro
  iapply Hk
  isplitl [Hp17]; · iexact Hp17
  isplitl [Hi1 Hi2 Hi0]
  · isplitl [Hi1]; · iexact Hi1
    isplitl [Hi2] <;> iassumption
  isplitl [H40]; · iexact H40
  iexact H41

/-- The own experts; the first block from the left arrives. -/
theorem part7 {Kt : _ → sProp 𝕄} (v4 : BitVec 32) :
    iprop(info A K ∗ (∃ f, outp c f)
        ∗ armed c 0
        ∗ armed c 6
        ∗ ow c 2)
      ⊢ iprop(((outp c (out1 A c)
          ∗ past c 0
          ∗ pts c cc0_stg4_0 H0 qL (A c).ew
          ∗ past c 6
          ∗ pts c cc0_scratch0 H0 fullShare (A (sh 3 c)).ew
          ∗ ow c 2) -∗ Kt 1#32)
        -∗ wp frame (wpE (defs₀ (F := F)) 𝒱₀ (c : Thread nD τ) none) Set.univ
            (k0_part7 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7 v4 (rtv A c) (keepv A c) (xv A c) (k0_pay6 (slab0 (A c).ew)) (k0_pay7 (slab1 (A c).ew)) (Scalar.muli 2#32 (wMy c)) (keepb A c) 1#32) Kt) := by
  simp only [k0_part7_eq_skeleton]; unfold k0_part7_skel
  simp only [semSignalWord, semWaitWord, Prog.lift, Prog.bind_op, Prog.bind_ret, Prog.pure_eq_ret, wp_deviceId]
  iintro ⟨#HI, ⟨%f5, H5⟩, Ha0, Ha6, HO⟩ Hk
  iapply (load5 c fullShare f5) $$ H5; iintro H5
  iapply (store5 c f5 (out1 A c)) $$ H5; iintro H5
  iapply (wt0 A K c 2 (by decide)) $$ [Ha0 HO]
  · isplitr; · iexact HI
    isplitl [Ha0]; · iexact Ha0
    iexact HO
  iintro ⟨Hz0, Hp0, HO⟩
  iapply (wt6 A K c 2 (by decide)) $$ [Ha6 HO]
  · isplitr; · iexact HI
    isplitl [Ha6]; · iexact Ha6
    iexact HO
  iintro ⟨Hz6, Hp6, HO⟩
  rw [wp_ret]; imodintro
  iapply Hk
  isplitl [H5]; · iexact H5
  isplitl [Hz0]; · iexact Hz0
  isplitl [Hp0]; · iexact Hp0
  isplitl [Hz6]; · iexact Hz6
  isplitl [Hp6]; · iexact Hp6
  iexact HO

/-- It is forwarded; the second block from the right arrives. -/
theorem part8 {Kt : _ → sProp 𝕄} (v4 v6 w1 : BitVec 32) :
    iprop(info A K ∗ ready c 4
        ∗ tr (sh 1 c) 10
        ∗ some' (sh 1 c) cc0_scratch2 H0
        ∗ pts c cc0_scratch0 H0 qL (A (sh 3 c)).ew
        ∗ armed c 2
        ∗ armed c 8
        ∗ ow c 2)
      ⊢ iprop(((armed c 4
          ∗ past c 2
          ∗ pts c cc0_stg4_0 H1 qRL (A c).ew
          ∗ past c 8
          ∗ pts c cc0_scratch1 H1 fullShare (A (sh 1 c)).ew
          ∗ ow c 1) -∗ Kt ⟨⟩)
        -∗ wp frame (wpE (defs₀ (F := F)) 𝒱₀ (c : Thread nD τ) none) Set.univ
            (k0_part8 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7 c v4 v6 w1) Kt) := by
  simp only [k0_part8_eq_skeleton]; unfold k0_part8_skel
  simp only [semSignalWord, semWaitWord, Prog.lift, Prog.bind_op, Prog.bind_ret, Prog.pure_eq_ret, wp_deviceId]
  iintro ⟨#HI, Hr4, Ht10, Hd4, Hs4, Ha2, Ha8, HO⟩ Hk
  iapply (sd4 A K c) $$ [Hr4 Ht10 Hs4 Hd4 HO]
  · isplitr; · iexact HI
    isplitl [Hr4]; · iexact Hr4
    isplitl [Ht10]; · iexact Ht10
    isplitl [Hs4]; · iexact Hs4
    isplitl [Hd4]; · iexact Hd4
    iexact HO
  iintro ⟨Ha4, HO⟩
  iapply (wt2 A K c 1 (by decide)) $$ [Ha2 HO]
  · isplitr; · iexact HI
    isplitl [Ha2]; · iexact Ha2
    iexact HO
  iintro ⟨Hz2, Hp2, HO⟩
  iapply (wt8 A K c 1 (by decide)) $$ [Ha8 HO]
  · isplitr; · iexact HI
    isplitl [Ha8]; · iexact Ha8
    iexact HO
  iintro ⟨Hz8, Hp8, HO⟩
  rw [wp_ret]; imodintro
  iapply Hk
  isplitl [Ha4]; · iexact Ha4
  isplitl [Hz2]; · iexact Hz2
  isplitl [Hp2]; · iexact Hp2
  isplitl [Hz8]; · iexact Hz8
  isplitl [Hp8]; · iexact Hp8
  iexact HO

/-- It is forwarded; the second block from the left arrives. -/
theorem part9 {Kt : _ → sProp 𝕄} (v4 : BitVec 32) :
    iprop(info A K ∗ ready c 5
        ∗ tr (sh 3 c) 11
        ∗ some' (sh 3 c) cc0_scratch2 H1
        ∗ pts c cc0_scratch1 H1 qL (A (sh 1 c)).ew
        ∗ armed c 1
        ∗ armed c 7
        ∗ outp c (out1 A c)
        ∗ pts c cc0_scratch0 H0 qR (A (sh 3 c)).ew
        ∗ ow c 1)
      ⊢ iprop(((armed c 5
          ∗ past c 1
          ∗ pts c cc0_stg4_0 H1 qL (A c).ew
          ∗ past c 7
          ∗ pts c cc0_scratch0 H1 fullShare (A (sh 3 c)).ew
          ∗ outp c (out1 A c)
          ∗ pts c cc0_scratch0 H0 qR (A (sh 3 c)).ew
          ∗ ow c 0) -∗ Kt ⟨k0_pay10 (out1 A c), k0_pay11 (slab0 (A (sh 3 c)).ew), slab1 (A (sh 3 c)).ew⟩)
        -∗ wp frame (wpE (defs₀ (F := F)) 𝒱₀ (c : Thread nD τ) none) Set.univ
            (k0_part9 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7 c v4) Kt) := by
  simp only [k0_part9_eq_skeleton]; unfold k0_part9_skel
  simp only [semSignalWord, semWaitWord, Prog.lift, Prog.bind_op, Prog.bind_ret, Prog.pure_eq_ret, wp_deviceId]
  iintro ⟨#HI, Hr5, Ht11, Hd5, Hs5, Ha1, Ha7, H5, H6, HO⟩ Hk
  iapply (sd5 A K c) $$ [Hr5 Ht11 Hs5 Hd5 HO]
  · isplitr; · iexact HI
    isplitl [Hr5]; · iexact Hr5
    isplitl [Ht11]; · iexact Ht11
    isplitl [Hs5]; · iexact Hs5
    isplitl [Hd5]; · iexact Hd5
    iexact HO
  iintro ⟨Ha5, HO⟩
  iapply (wt1 A K c 0 (by decide)) $$ [Ha1 HO]
  · isplitr; · iexact HI
    isplitl [Ha1]; · iexact Ha1
    iexact HO
  iintro ⟨Hz1, Hp1, HO⟩
  iapply (wt7 A K c 0 (by decide)) $$ [Ha7 HO]
  · isplitr; · iexact HI
    isplitl [Ha7]; · iexact Ha7
    iexact HO
  iintro ⟨Hz7, Hp7, HO⟩
  iapply (load5 c fullShare (out1 A c)) $$ H5; iintro H5
  iapply (load60 c qR (A (sh 3 c)).ew) $$ H6; iintro H6
  iapply (load61 c fullShare (A (sh 3 c)).ew) $$ Hp7; iintro Hp7
  rw [wp_ret]; imodintro
  iapply Hk
  isplitl [Ha5]; · iexact Ha5
  isplitl [Hz1]; · iexact Hz1
  isplitl [Hp1]; · iexact Hp1
  isplitl [Hz7]; · iexact Hz7
  isplitl [Hp7]; · iexact Hp7
  isplitl [H5]; · iexact H5
  isplitl [H6]; · iexact H6
  iexact HO

/-- The left neighbour's experts. -/
theorem part10 {Kt : _ → sProp 𝕄} :
    iprop(info A K ∗ outp c (out1 A c)
        ∗ armed c 3
        ∗ ow c 0)
      ⊢ iprop(((outp c (out2 A c)
          ∗ past c 3
          ∗ pts c cc0_stg4_0 H0 qRL (A c).ew
          ∗ ow c 0) -∗ Kt ⟨⟩)
        -∗ wp frame (wpE (defs₀ (F := F)) 𝒱₀ (c : Thread nD τ) none) Set.univ
            (k0_part10 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7 (wL c) (rtv A c) (keepv A c) (xv A c) (k0_pay10 (out1 A c)) (k0_pay11 (slab0 (A (sh 3 c)).ew)) (slab1 (A (sh 3 c)).ew)) Kt) := by
  simp only [k0_part10_eq_skeleton]; unfold k0_part10_skel
  simp only [semSignalWord, semWaitWord, Prog.lift, Prog.bind_op, Prog.bind_ret, Prog.pure_eq_ret, wp_deviceId]
  iintro ⟨#HI, H5, Ha3, HO⟩ Hk
  iapply (load5 c fullShare (out1 A c)) $$ H5; iintro H5
  iapply (store5 c (out1 A c) (out2 A c)) $$ H5; iintro H5
  iapply (wt3 A K c 0 (by decide)) $$ [Ha3 HO]
  · isplitr; · iexact HI
    isplitl [Ha3]; · iexact Ha3
    iexact HO
  iintro ⟨Hz3, Hp3, HO⟩
  rw [wp_ret]; imodintro
  iapply Hk
  isplitl [H5]; · iexact H5
  isplitl [Hz3]; · iexact Hz3
  isplitl [Hp3]; · iexact Hp3
  iexact HO

/-- The right neighbour's experts. -/
theorem part11 {Kt : _ → sProp 𝕄} :
    iprop(info A K ∗ outp c (out2 A c)
        ∗ armed c 9
        ∗ pts c cc0_scratch1 H1 qR (A (sh 1 c)).ew
        ∗ ow c 0)
      ⊢ iprop(((outp c (out3 A c)
          ∗ past c 9
          ∗ pts c cc0_scratch1 H0 fullShare (A (sh 1 c)).ew
          ∗ pts c cc0_scratch1 H1 qR (A (sh 1 c)).ew
          ∗ ow c 0) -∗ Kt ⟨⟩)
        -∗ wp frame (wpE (defs₀ (F := F)) 𝒱₀ (c : Thread nD τ) none) Set.univ
            (k0_part11 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7 (wR c) (rtv A c) (keepv A c) (xv A c)) Kt) := by
  simp only [k0_part11_eq_skeleton]; unfold k0_part11_skel
  simp only [semSignalWord, semWaitWord, Prog.lift, Prog.bind_op, Prog.bind_ret, Prog.pure_eq_ret, wp_deviceId]
  iintro ⟨#HI, H5, Ha9, H7, HO⟩ Hk
  iapply (wt9 A K c 0 (by decide)) $$ [Ha9 HO]
  · isplitr; · iexact HI
    isplitl [Ha9]; · iexact Ha9
    iexact HO
  iintro ⟨Hz9, Hp9, HO⟩
  iapply (load5 c fullShare (out2 A c)) $$ H5; iintro H5
  iapply (load70 c fullShare (A (sh 1 c)).ew) $$ Hp9; iintro Hp9
  iapply (load71 c qR (A (sh 1 c)).ew) $$ H7; iintro H7
  iapply (load5 c fullShare (out2 A c)) $$ H5; iintro H5
  iapply (store5 c (out2 A c) (out3 A c)) $$ H5; iintro H5
  rw [wp_ret]; imodintro
  iapply Hk
  isplitl [H5]; · iexact H5
  isplitl [Hz9]; · iexact Hz9
  isplitl [Hp9]; · iexact Hp9
  isplitl [H7]; · iexact H7
  iexact HO

/-- The opposite device's blocks arrive. -/
theorem part12 {Kt : _ → sProp 𝕄} (v4 v6 : BitVec 32) :
    iprop(info A K ∗ armed c 4
        ∗ armed c 10
        ∗ armed c 5
        ∗ armed c 11
        ∗ ow c 0)
      ⊢ iprop(((past c 4
          ∗ pts c cc0_scratch0 H0 qL (A (sh 3 c)).ew
          ∗ past c 10
          ∗ pts c cc0_scratch2 H0 fullShare (A (sh 2 c)).ew
          ∗ past c 5
          ∗ pts c cc0_scratch1 H1 qL (A (sh 1 c)).ew
          ∗ past c 11
          ∗ pts c cc0_scratch2 H1 fullShare (A (sh 2 c)).ew
          ∗ ow c 0) -∗ Kt ⟨⟩)
        -∗ wp frame (wpE (defs₀ (F := F)) 𝒱₀ (c : Thread nD τ) none) Set.univ
            (k0_part12 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7 v4 v6) Kt) := by
  simp only [k0_part12_eq_skeleton]; unfold k0_part12_skel
  simp only [semSignalWord, semWaitWord, Prog.lift, Prog.bind_op, Prog.bind_ret, Prog.pure_eq_ret, wp_deviceId]
  iintro ⟨#HI, Ha4, Ha10, Ha5, Ha11, HO⟩ Hk
  iapply (wt4 A K c 0 (by decide)) $$ [Ha4 HO]
  · isplitr; · iexact HI
    isplitl [Ha4]; · iexact Ha4
    iexact HO
  iintro ⟨Hz4, Hp4, HO⟩
  iapply (wt10 A K c 0 (by decide)) $$ [Ha10 HO]
  · isplitr; · iexact HI
    isplitl [Ha10]; · iexact Ha10
    iexact HO
  iintro ⟨Hz10, Hp10, HO⟩
  iapply (wt5 A K c 0 (by decide)) $$ [Ha5 HO]
  · isplitr; · iexact HI
    isplitl [Ha5]; · iexact Ha5
    iexact HO
  iintro ⟨Hz5, Hp5, HO⟩
  iapply (wt11 A K c 0 (by decide)) $$ [Ha11 HO]
  · isplitr; · iexact HI
    isplitl [Ha11]; · iexact Ha11
    iexact HO
  iintro ⟨Hz11, Hp11, HO⟩
  rw [wp_ret]; imodintro
  iapply Hk
  isplitl [Hz4]; · iexact Hz4
  isplitl [Hp4]; · iexact Hp4
  isplitl [Hz10]; · iexact Hz10
  isplitl [Hp10]; · iexact Hp10
  isplitl [Hz5]; · iexact Hz5
  isplitl [Hp5]; · iexact Hp5
  isplitl [Hz11]; · iexact Hz11
  isplitl [Hp11]; · iexact Hp11
  iexact HO

end Cert.Moe
-- ==== Proof.Body.lean ====
/-
One device's whole run: from its inputs and the protocol's tokens to its output and the semaphores' rounds over.
-/
module

public import proofs.«01_k».proof.Proof.Parts

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Ins F) (K : GSem nD τ sig → ℕ) (c : Dev nD)

/-- A copy semaphore at its start. -/
abbrev fresh (k : Fin 18) : sProp 𝕄 := iprop(atPos ER (ocell c k) 0 ∅ 0 ∗ rch c k)
/-- What an arrival from another device owes this one. -/
abbrev due (k : Fin 18) : sProp 𝕄 := cred (tallyAt (ocell c k) () (amt k))

/-- The tokens with which device `c` starts: its place at the barrier, its own copy semaphores, the departures it
    may pay itself, the arrivals it may pay at the others, and what arrives here. -/
def start : sProp 𝕄 := iprop(
(btok (sh 1 c) 0 ∗ btok (sh 2 c) 1 ∗ btok (sh 3 c) 2 ∗ barArmed c)
  ∗ (fresh c 0 ∗ fresh c 1 ∗ fresh c 2 ∗ fresh c 3 ∗ fresh c 4 ∗ fresh c 5 ∗ fresh c 6 ∗ fresh c 7 ∗ fresh c 8 ∗ fresh c 9 ∗ fresh c 10 ∗ fresh c 11 ∗ fresh c 12 ∗ fresh c 13 ∗ fresh c 14 ∗ fresh c 15 ∗ fresh c 16 ∗ fresh c 17)
  ∗ (tok c 0 ∗ tok c 1 ∗ tok c 2 ∗ tok c 3 ∗ tok c 4 ∗ tok c 5 ∗ tok c 12 ∗ tok c 13 ∗ tok c 14)
  ∗ (tok (sh 1 c) 6 ∗ tok (sh 1 c) 7 ∗ tok (sh 3 c) 8 ∗ tok (sh 3 c) 9 ∗ tok (sh 1 c) 10 ∗ tok (sh 3 c) 11 ∗ tok (sh 1 c) 15 ∗ tok (sh 2 c) 16 ∗ tok (sh 3 c) 17)
  ∗ (due c 6 ∗ due c 7 ∗ due c 8 ∗ due c 9 ∗ due c 10 ∗ due c 11 ∗ due c 15 ∗ due c 16 ∗ due c 17))
/-- And with which it ends: every semaphore past its round. -/
def ended : sProp 𝕄 := iprop(barPast c
  ∗ past c 0 ∗ past c 1 ∗ past c 2 ∗ past c 3 ∗ past c 4 ∗ past c 5 ∗ past c 6 ∗ past c 7 ∗ past c 8 ∗ past c 9 ∗ past c 10 ∗ past c 11 ∗ past c 12 ∗ past c 13 ∗ past c 14 ∗ past c 15 ∗ past c 16 ∗ past c 17)
/-- The buffers for what arrives. -/
def scratch : sProp 𝕄 := iprop(some' c cc0_scratch0 Finset.univ ∗ some' c cc0_scratch1 Finset.univ ∗ some' c cc0_scratch2 Finset.univ
  ∗ some' c cc0_scratch3 Finset.univ)
/-- The inputs in place. -/
def ins : sProp 𝕄 := iprop(inp A c ∗ pts c cc0_stg3_0 Finset.univ fullShare (A c).cn ∗ pts c cc0_stg4_0 Finset.univ fullShare (A c).ew)

theorem cut4 (f : S2x256x512.Idx → Elt F .bf16) : (pts c cc0_stg4_0 Finset.univ fullShare f : sProp 𝕄) ⊣⊢
    iprop((pts c cc0_stg4_0 H0 qL f ∗ pts c cc0_stg4_0 H0 qRL f ∗ pts c cc0_stg4_0 H0 qRR f)
      ∗ (pts c cc0_stg4_0 H1 qL f ∗ pts c cc0_stg4_0 H1 qRL f ∗ pts c cc0_stg4_0 H1 qRR f)) := by
  refine ⟨?_, ?_⟩
  · iintro H
    ihave H := (halves4 c fullShare f).1 $$ H
    icases H with ⟨Ha, Hb⟩
    isplitl [Ha]; · iapply (thirds c cc0_stg4_0 H0 f).1; iexact Ha
    iapply (thirds c cc0_stg4_0 H1 f).1; iexact Hb
  · iintro ⟨Ha, Hb⟩
    iapply (halves4 c fullShare f).2
    isplitl [Ha]; · iapply (thirds c cc0_stg4_0 H0 f).2; iexact Ha
    iapply (thirds c cc0_stg4_0 H1 f).2; iexact Hb

theorem pair (b : Ref sig .tc) (I : Finset b.ty.Idx) (f : b.ty.Contents (Elt F)) :
    (pts c b I fullShare f : sProp 𝕄) ⊣⊢ iprop(pts c b I qL f ∗ pts c b I qR f) :=
  pointsTo_share (PosShare.mem_left_op_right fullShare)

set_option maxHeartbeats 8000000 in
/-- A device runs from its start to its end, and leaves the sum over all experts in its output. -/
theorem run {Kt : PUnit → sProp 𝕄} :
    iprop(info A K ∗ start c ∗ scratch c ∗ ins A c ∗ (∃ f, outp c f) ∗ ow c 12)
      ⊢ iprop(((ended c ∗ scratch c ∗ ins A c ∗ outp c (out4 A c) ∗ ow c 0) -∗ Kt ⟨⟩)
        -∗ wp frame (wpE (defs₀ (F := F)) 𝒱₀ (c : Thread nD τ) none) Set.univ
            (cc0_body M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7) Kt) := by
  simp only [cc0_body_eq_skeleton]; unfold cc0_body_skel
  unfold start scratch ins
  iintro ⟨#HI, ⟨⟨Hb0, Hb1, Hb2, Hb⟩, ⟨⟨Hat0, #Hh0⟩, ⟨Hat1, #Hh1⟩, ⟨Hat2, #Hh2⟩, ⟨Hat3, #Hh3⟩, ⟨Hat4, #Hh4⟩, ⟨Hat5, #Hh5⟩, ⟨Hat6, #Hh6⟩, ⟨Hat7, #Hh7⟩, ⟨Hat8, #Hh8⟩, ⟨Hat9, #Hh9⟩, ⟨Hat10, #Hh10⟩, ⟨Hat11, #Hh11⟩, ⟨Hat12, #Hh12⟩, ⟨Hat13, #Hh13⟩, ⟨Hat14, #Hh14⟩, ⟨Hat15, #Hh15⟩, ⟨Hat16, #Hh16⟩, ⟨Hat17, #Hh17⟩⟩, ⟨Ho0, Ho1, Ho2, Ho3, Ho4, Ho5, Ho12, Ho13, Ho14⟩, ⟨Ht6, Ht7, Ht8, Ht9, Ht10, Ht11, Ht15, Ht16, Ht17⟩, ⟨Hc6, Hc7, Hc8, Hc9, Hc10, Hc11, Hc15, Hc16, Hc17⟩⟩, ⟨⟨%f6, HS6⟩, ⟨%f7, HS7⟩, ⟨%f8, HS8⟩, ⟨%f9, HS9⟩⟩, ⟨HX, H3, H4⟩, H5, HO⟩ Hk
  ihave H3 := (thirds c cc0_stg3_0 Finset.univ (A c).cn).1 $$ H3
  icases H3 with ⟨Hs12, Hs13, Hs14⟩
  ihave H4 := (cut4 c (A c).ew).1 $$ H4
  icases H4 with ⟨⟨Hs0, Hs3, H40⟩, ⟨Hs1, Hs2, H41⟩⟩
  ihave HS6 := (halves6 c fullShare f6).1 $$ HS6
  icases HS6 with ⟨H60, H61⟩
  ihave HS7 := (halves7 c fullShare f7).1 $$ HS7
  icases HS7 with ⟨H70, H71⟩
  ihave HS8 := (halves8 c fullShare f8).1 $$ HS8
  icases HS8 with ⟨H80, H81⟩
  ihave HS9 := (cut9 c f9) $$ HS9
  icases HS9 with ⟨H90, H91, H92⟩
  rw [wp_bind]
  iapply (part1 A K c) $$ [Hb0 Hb1 Hb2 Hb H71 H70 H81 H92 H91 H60 H61 H80 H90 HO]
  · isplitr; · iexact HI
    isplitl [Hb0]
    · iexact Hb0
    isplitl [Hb1]
    · iexact Hb1
    isplitl [Hb2]
    · iexact Hb2
    isplitl [Hb]
    · iexact Hb
    isplitl [H71 H70 H81 H92]
    · unfold give
      isplitl [H71 H70 H81 H92]
      · isplitl [H71]; · iexists f7; iexact H71
        isplitl [H70]; · iexists f7; iexact H70
        isplitl [H81]; · iexists f8; iexact H81
        iexact H92
      isplitr; · iexact Hh8
      isplitr; · iexact Hh9
      isplitr; · iexact Hh11
      iexact Hh17
    isplitl [H91]
    · unfold give
      isplitl [H91]; · iexact H91
      iexact Hh16
    isplitl [H60 H61 H80 H90]
    · unfold give
      isplitl [H60 H61 H80 H90]
      · isplitl [H60]; · iexists f6; iexact H60
        isplitl [H61]; · iexists f6; iexact H61
        isplitl [H80]; · iexists f8; iexact H80
        iexact H90
      isplitr; · iexact Hh6
      isplitr; · iexact Hh7
      isplitr; · iexact Hh10
      iexact Hh15
    iexact HO
  iintro ⟨Hzb, HG0, HG1, HG2, HO⟩
  beta_reduce
  unfold give
  icases HG0 with ⟨⟨Hd2, Hd3, Hd5, Hd14⟩, #Hq8, #Hq9, #Hq11, #Hq17⟩
  icases HG1 with ⟨Hd13, #Hq16⟩
  icases HG2 with ⟨⟨Hd0, Hd1, Hd4, Hd12⟩, #Hq6, #Hq7, #Hq10, #Hq15⟩
  rw [wp_bind]
  iapply (part2 A K c _ _ _ _) $$ [Ho12 Hat12 Ht15 Hd12 Hs12 Ho13 Hat13 Ht16 Hd13 Hs13 Ho14 Hat14 Ht17 Hd14 Hs14 HO]
  · isplitr; · iexact HI
    isplitl [Ho12 Hat12]
    · isplitl [Ho12]; · iexact Ho12
      isplitr; · iexact Hh12
      iexact Hat12
    isplitl [Ht15]
    · isplitl [Ht15]; · iexact Ht15
      iexact Hq15
    isplitl [Hd12]
    · iexact Hd12
    isplitl [Hs12]
    · iexact Hs12
    isplitl [Ho13 Hat13]
    · isplitl [Ho13]; · iexact Ho13
      isplitr; · iexact Hh13
      iexact Hat13
    isplitl [Ht16]
    · isplitl [Ht16]; · iexact Ht16
      iexact Hq16
    isplitl [Hd13]
    · iexact Hd13
    isplitl [Hs13]
    · iexact Hs13
    isplitl [Ho14 Hat14]
    · isplitl [Ho14]; · iexact Ho14
      isplitr; · iexact Hh14
      iexact Hat14
    isplitl [Ht17]
    · isplitl [Ht17]; · iexact Ht17
      iexact Hq17
    isplitl [Hd14]
    · iexact Hd14
    isplitl [Hs14]
    · iexact Hs14
    iexact HO
  iintro ⟨Ha12, Ha13, Ha14, HO⟩
  beta_reduce
  rw [wp_bind]
  iapply (part3 A K c _ _) $$ [Ho0 Hat0 Ht6 Hd0 Hs0 Ho1 Hat1 Ht7 Hd1 Hs1 Ho2 Hat2 Ht8 Hd2 Hs2 HO]
  · isplitr; · iexact HI
    isplitl [Ho0 Hat0]
    · isplitl [Ho0]; · iexact Ho0
      isplitr; · iexact Hh0
      iexact Hat0
    isplitl [Ht6]
    · isplitl [Ht6]; · iexact Ht6
      iexact Hq6
    isplitl [Hd0]
    · iexact Hd0
    isplitl [Hs0]
    · iexact Hs0
    isplitl [Ho1 Hat1]
    · isplitl [Ho1]; · iexact Ho1
      isplitr; · iexact Hh1
      iexact Hat1
    isplitl [Ht7]
    · isplitl [Ht7]; · iexact Ht7
      iexact Hq7
    isplitl [Hd1]
    · iexact Hd1
    isplitl [Hs1]
    · iexact Hs1
    isplitl [Ho2 Hat2]
    · isplitl [Ho2]; · iexact Ho2
      isplitr; · iexact Hh2
      iexact Hat2
    isplitl [Ht8]
    · isplitl [Ht8]; · iexact Ht8
      iexact Hq8
    isplitl [Hd2]
    · iexact Hd2
    isplitl [Hs2]
    · iexact Hs2
    iexact HO
  iintro ⟨Ha0, Ha1, Ha2, HO⟩
  beta_reduce
  rw [wp_bind]
  iapply (part4 A K c _ _ _ _) $$ [Ho3 Hat3 Ht9 Hd3 Hs3 Ha12 Hc15 Hat15 Ha13 HO]
  · isplitr; · iexact HI
    isplitl [Ho3 Hat3]
    · isplitl [Ho3]; · iexact Ho3
      isplitr; · iexact Hh3
      iexact Hat3
    isplitl [Ht9]
    · isplitl [Ht9]; · iexact Ht9
      iexact Hq9
    isplitl [Hd3]
    · iexact Hd3
    isplitl [Hs3]
    · iexact Hs3
    isplitl [Ha12]
    · iexact Ha12
    isplitl [Hc15 Hat15]
    · isplitl [Hc15]; · iexact Hc15
      iexact Hat15
    isplitl [Ha13]
    · iexact Ha13
    iexact HO
  iintro ⟨Ha3, Hz12, Hp12, Hz15, Hp15, Hz13, Hp13, HO⟩
  beta_reduce
  rw [wp_bind]
  iapply (part5 A K c _) $$ [Hc16 Hat16 Ha14 Hc17 Hat17 Hp15 HO]
  · isplitr; · iexact HI
    isplitl [Hc16 Hat16]
    · isplitl [Hc16]; · iexact Hc16
      iexact Hat16
    isplitl [Ha14]
    · iexact Ha14
    isplitl [Hc17 Hat17]
    · isplitl [Hc17]; · iexact Hc17
      iexact Hat17
    isplitl [Hp15]
    · iexact Hp15
    iexact HO
  iintro ⟨Hz16, Hp16, Hz14, Hp14, Hz17, Hp17, Hp15, HO⟩
  beta_reduce
  rw [wp_bind]
  iapply (part6 A K c) $$ [Hp17 HX H40 H41]
  · isplitr; · iexact HI
    isplitl [Hp17]
    · iexact Hp17
    isplitl [HX]
    · iexact HX
    isplitl [H40]
    · iexact H40
    iexact H41
  iintro ⟨Hp17, HX, H40, H41⟩
  beta_reduce
  rw [wp_bind]
  iapply (part7 A K c _) $$ [H5 Ha0 Hc6 Hat6 HO]
  · isplitr; · iexact HI
    isplitl [H5]
    · iexact H5
    isplitl [Ha0]
    · iexact Ha0
    isplitl [Hc6 Hat6]
    · isplitl [Hc6]; · iexact Hc6
      iexact Hat6
    iexact HO
  iintro ⟨H5, Hz0, Hp0, Hz6, Hp6, HO⟩
  beta_reduce
  ihave Hp6 := (pair c cc0_scratch0 H0 (A (sh 3 c)).ew).1 $$ Hp6
  icases Hp6 with ⟨Hs4, H6⟩
  rw [wp_bind]
  iapply (part8 A K c _ _ _) $$ [Ho4 Hat4 Ht10 Hd4 Hs4 Ha2 Hc8 Hat8 HO]
  · isplitr; · iexact HI
    isplitl [Ho4 Hat4]
    · isplitl [Ho4]; · iexact Ho4
      isplitr; · iexact Hh4
      iexact Hat4
    isplitl [Ht10]
    · isplitl [Ht10]; · iexact Ht10
      iexact Hq10
    isplitl [Hd4]
    · iexact Hd4
    isplitl [Hs4]
    · iexact Hs4
    isplitl [Ha2]
    · iexact Ha2
    isplitl [Hc8 Hat8]
    · isplitl [Hc8]; · iexact Hc8
      iexact Hat8
    iexact HO
  iintro ⟨Ha4, Hz2, Hp2, Hz8, Hp8, HO⟩
  beta_reduce
  ihave Hp8 := (pair c cc0_scratch1 H1 (A (sh 1 c)).ew).1 $$ Hp8
  icases Hp8 with ⟨Hs5, H7⟩
  rw [wp_bind]
  iapply (part9 A K c _) $$ [Ho5 Hat5 Ht11 Hd5 Hs5 Ha1 Hc7 Hat7 H5 H6 HO]
  · isplitr; · iexact HI
    isplitl [Ho5 Hat5]
    · isplitl [Ho5]; · iexact Ho5
      isplitr; · iexact Hh5
      iexact Hat5
    isplitl [Ht11]
    · isplitl [Ht11]; · iexact Ht11
      iexact Hq11
    isplitl [Hd5]
    · iexact Hd5
    isplitl [Hs5]
    · iexact Hs5
    isplitl [Ha1]
    · iexact Ha1
    isplitl [Hc7 Hat7]
    · isplitl [Hc7]; · iexact Hc7
      iexact Hat7
    isplitl [H5]
    · iexact H5
    isplitl [H6]
    · iexact H6
    iexact HO
  iintro ⟨Ha5, Hz1, Hp1, Hz7, Hp7, H5, H6, HO⟩
  beta_reduce
  rw [wp_bind]
  iapply (part10 A K c) $$ [H5 Ha3 HO]
  · isplitr; · iexact HI
    isplitl [H5]
    · iexact H5
    isplitl [Ha3]
    · iexact Ha3
    iexact HO
  iintro ⟨H5, Hz3, Hp3, HO⟩
  beta_reduce
  rw [wp_bind]
  iapply (part11 A K c) $$ [H5 Hc9 Hat9 H7 HO]
  · isplitr; · iexact HI
    isplitl [H5]
    · iexact H5
    isplitl [Hc9 Hat9]
    · isplitl [Hc9]; · iexact Hc9
      iexact Hat9
    isplitl [H7]
    · iexact H7
    iexact HO
  iintro ⟨H5, Hz9, Hp9, H7, HO⟩
  beta_reduce
  rw [wp_bind]
  iapply (part12 A K c _ _) $$ [Ha4 Hc10 Hat10 Ha5 Hc11 Hat11 HO]
  · isplitr; · iexact HI
    isplitl [Ha4]
    · iexact Ha4
    isplitl [Hc10 Hat10]
    · isplitl [Hc10]; · iexact Hc10
      iexact Hat10
    isplitl [Ha5]
    · iexact Ha5
    isplitl [Hc11 Hat11]
    · isplitl [Hc11]; · iexact Hc11
      iexact Hat11
    iexact HO
  iintro ⟨Hz4, Hp4, Hz10, Hp10, Hz5, Hp5, Hz11, Hp11, HO⟩
  beta_reduce
  simp only [Prog.lift, Prog.bind_op, Prog.bind_ret, Prog.pure_eq_ret]
  iapply (load5 c fullShare (out3 A c)) $$ H5; iintro H5
  iapply (load80 c fullShare (A (sh 2 c)).ew) $$ Hp10; iintro Hp10
  iapply (load81 c fullShare (A (sh 2 c)).ew) $$ Hp11; iintro Hp11
  iapply (load5 c fullShare (out3 A c)) $$ H5; iintro H5
  iapply (store5 c (out3 A c) (out4 A c)) $$ H5; iintro H5
  rw [wp_ret]; imodintro
  iapply Hk
  isplitl [Hzb Hz0 Hz1 Hz2 Hz3 Hz4 Hz5 Hz6 Hz7 Hz8 Hz9 Hz10 Hz11 Hz12 Hz13 Hz14 Hz15 Hz16 Hz17]
  · unfold ended
    isplitl [Hzb]; · iexact Hzb
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    iexact Hz17
  isplitl [Hp4 H6 Hp7 Hp5 H7 Hp9 Hp10 Hp11 Hp15 Hp16 Hp17]
  · isplitl [Hp4 H6 Hp7]
    · iexists (A (sh 3 c)).ew
      iapply (halves6 c fullShare (A (sh 3 c)).ew).2
      isplitl [Hp4 H6]
      · iapply (pair c cc0_scratch0 H0 (A (sh 3 c)).ew).2
        isplitl [Hp4] <;> iassumption
      iexact Hp7
    isplitl [Hp5 H7 Hp9]
    · iexists (A (sh 1 c)).ew
      iapply (halves7 c fullShare (A (sh 1 c)).ew).2
      isplitl [Hp9]; · iexact Hp9
      iapply (pair c cc0_scratch1 H1 (A (sh 1 c)).ew).2
      isplitl [Hp5] <;> iassumption
    isplitl [Hp10 Hp11]
    · iexists (A (sh 2 c)).ew
      iapply (halves8 c fullShare (A (sh 2 c)).ew).2
      isplitl [Hp10] <;> iassumption
    iapply (join9 c (slots (A (sh 3 c)).cn) (slots (A (sh 2 c)).cn) (slots (A (sh 1 c)).cn))
    isplitl [Hp15]; · iexact Hp15
    isplitl [Hp16] <;> iassumption
  isplitl [HX Hp12 Hp13 Hp14 Hp0 Hp3 H40 Hp1 Hp2 H41]
  · isplitl [HX]; · iexact HX
    isplitl [Hp12 Hp13 Hp14]
    · iapply (thirds c cc0_stg3_0 Finset.univ (A c).cn).2
      isplitl [Hp12]; · iexact Hp12
      isplitl [Hp13] <;> iassumption
    iapply (cut4 c (A c).ew).2
    isplitl [Hp0 Hp3 H40]
    · isplitl [Hp0]; · iexact Hp0
      isplitl [Hp3] <;> iassumption
    isplitl [Hp1]; · iexact Hp1
    isplitl [Hp2] <;> iassumption
  isplitl [H5]; · iexact H5
  iexact HO

end Cert.Moe
-- ==== Proof.Region.lean ====
/-
The kernel's region: what each device brings to it, the body at its one grid point, and what it leaves.
-/
module

public import proofs.«01_k».proof.Proof.Body
public import proofs.«01_k».proof.Proof.Gen.KernelIdeal.Frame
public import Idealize.ShloMosaic.Lib.Pipeline.RegionTalk
public import Idealize.ShloMosaic.Lib.Pipeline.RegionArrays
public import Idealize.ShloMosaic.Lib.Pipeline.ValueKit

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The contents -/

/-- Device `c`'s buffers as launched. -/
abbrev W0 (c : Dev nD) : Valuation τ sig (Elt F) := fun b => m (c, b)
/-- After the first, the second and the third stretch of host operations: the last as the kernel finds them. -/
abbrev W1 (c : Dev nD) : Valuation τ sig (Elt F) := StableHlo.after hostOps0 (W0 m c)
abbrev W2 (c : Dev nD) : Valuation τ sig (Elt F) := StableHlo.after hostOps0_1 (W1 m c)
def W3 (c : Dev nD) : Valuation τ sig (Elt F) := StableHlo.after hostOps0_2 (W2 m c)

theorem V_eq (c : Dev nD) (b : Ref sig .tc) : V m c b = W3 m c (Proc.devRef .tc b) := rfl

/-- What the devices bring to the exchange. -/
def AA (c : Dev nD) : Ins F := ⟨V m c main_v14, V m c main_arg2, V m c main_v11, V m c main_v13, V m c main_v15⟩

/-- After the kernel: the result array at what the kernel computes. -/
def W4 (c : Dev nD) : Valuation τ sig (Elt F) := Function.update (W3 m c) (Proc.devRef .tc main_v16) (out4 (AA m) c)

/-! ## Proof data -/

/-- Opened at the region: the invariants and the tokens. -/
def Xk (c : Dev nD) : sProp 𝕄 := iprop(∃ K, info (AA m) K ∗ start c)
/-- Left of the barrier's semaphore. -/
def Yk (c : Dev nD) : sProp 𝕄 := iprop(∃ K, info (AA m) K ∗ barPast c)

def Φ₀ (c : Dev nD) : sProp 𝕄 := iprop(Xk m c ∗ scratch c ∗ ∃ r, prngReg c r)
def Φ₁ (c : Dev nD) : sProp 𝕄 := iprop(Yk m c ∗ Pipeline.ownSems0 osem c ∗ scratch c ∗ ∃ r, prngReg c r)

def dats (_ : Fin 1) (c : Dev nD) : Dat τ (Elt F) Unit ℕ UU ℕ cfg0 c where
  A w := V m c (Pipeline.arrRef spec0 w)
  after w _ := match w with
    | ⟨0, _⟩ => (AA m c).x
    | ⟨1, _⟩ => (AA m c).rt
    | ⟨2, _⟩ => (AA m c).ex
    | ⟨3, _⟩ => (AA m c).cn
    | ⟨4, _⟩ => (AA m c).ew
    | ⟨5, _⟩ => out4 (AA m) c
  Φ t := match t with
    | ⟨0, _⟩ => Φ₀ m c
    | ⟨_ + 1, _⟩ => Φ₁ m c
  q _ := fullShare
  owed t := match t with
    | ⟨0, _⟩ => owed c 12
    | ⟨_ + 1, _⟩ => owed c 0

/-- The one block of each array is the whole array. -/
theorem blk0 (c : Dev nD) : iblk m c 0 t0_0 = (AA m c).x := by
  funext y; unfold iblk AA; show V m c main_v14 _ = V m c main_v14 y; congr 1
  funext a; apply Fin.ext; blk_simp; fin_cases a <;> simp <;> rfl
theorem blk1 (c : Dev nD) : iblk m c 1 t0_0 = (AA m c).rt := by
  funext y; unfold iblk AA; show V m c main_arg2 _ = V m c main_arg2 y; congr 1
  funext a; apply Fin.ext; blk_simp; fin_cases a <;> simp <;> rfl
theorem blk2 (c : Dev nD) : iblk m c 2 t0_0 = (AA m c).ex := by
  funext y; unfold iblk AA; show V m c main_v11 _ = V m c main_v11 y; congr 1
  funext a; apply Fin.ext; blk_simp; fin_cases a <;> simp <;> rfl
theorem blk3 (c : Dev nD) : iblk m c 3 t0_0 = (AA m c).cn := by
  funext y; unfold iblk AA; show V m c main_v13 _ = V m c main_v13 y; congr 1
  funext a; apply Fin.ext; blk_simp; fin_cases a <;> simp <;> rfl
theorem blk4 (c : Dev nD) : iblk m c 4 t0_0 = (AA m c).ew := by
  funext y; unfold iblk AA; show V m c main_v15 _ = V m c main_v15 y; congr 1
  funext a; apply Fin.ext; blk_simp; fin_cases a <;> simp <;> rfl

theorem before0 (c : Dev nD) (d) : (dats m 0 c).before 0 t0_0 d = (AA m c).x := by
  refine Eq.trans ?_ (blk0 m c); unfold Dat.before; rw [if_pos (fetch0_0 t0_0)]; rfl
theorem before1 (c : Dev nD) (d) : (dats m 0 c).before 1 t0_0 d = (AA m c).rt := by
  refine Eq.trans ?_ (blk1 m c); unfold Dat.before; rw [if_pos (fetch0_1 t0_0)]; rfl
theorem before2 (c : Dev nD) (d) : (dats m 0 c).before 2 t0_0 d = (AA m c).ex := by
  refine Eq.trans ?_ (blk2 m c); unfold Dat.before; rw [if_pos (fetch0_2 t0_0)]; rfl
theorem before3 (c : Dev nD) (d) : (dats m 0 c).before 3 t0_0 d = (AA m c).cn := by
  refine Eq.trans ?_ (blk3 m c); unfold Dat.before; rw [if_pos (fetch0_3 t0_0)]; rfl
theorem before4 (c : Dev nD) (d) : (dats m 0 c).before 4 t0_0 d = (AA m c).ew := by
  refine Eq.trans ?_ (blk4 m c); unfold Dat.before; rw [if_pos (fetch0_4 t0_0)]; rfl

theorem owesAt_intro (c : Dev nD) (t : Fin (cfg0.N + 1)) (O : CellTallies nD τ sig Unit) (h0 : (dats m 0 c).owed t = O) (W : Waits sig Unit) :
    (owes (c : Thread nD τ) O W : sProp 𝕄) ⊢ ((dats m 0 c).owesAt () t : sProp 𝕄) := by
  unfold Dat.owesAt Pipeline.owesWithin; rw [h0]
  iintro HO; iexists W; isplitr; · ipureintro; exact fun _ _ => Or.inl trivial
  iexact HO
theorem owesAt_elim (c : Dev nD) (t : Fin (cfg0.N + 1)) (O : CellTallies nD τ sig Unit) (h0 : (dats m 0 c).owed t = O) :
    ((dats m 0 c).owesAt () t : sProp 𝕄) ⊢ iprop(∃ W, owes (c : Thread nD τ) O W) := by
  unfold Dat.owesAt Pipeline.owesWithin; rw [h0]
  iintro ⟨%W, -, HO⟩; iexists W; iexact HO

/-! ## Closing the copy semaphores -/

theorem fin18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [(0 : Fin 18), 1, 2, 3, 4, 5, 6, 7, 8, 9, 10, 11, 12, 13, 14, 15, 16, 17] (by decide) (by decide) Φ

/-- Past their rounds, the copy semaphores give their counters back at zero. -/
theorem close_all (A : Dev nD → Ins F) (K : GSem nD τ sig → ℕ) (c : Dev nD) :
    iprop(info A K ∗ bigSep Finset.univ fun k : Fin 18 => past c k) ⊢ (|={Set.univ}=> Pipeline.ownSems0 osem c : sProp 𝕄) := by
  refine (bigSep_with_persistent (R := info A K) (Φ := fun k : Fin 18 => past c k) (Ψ := fun k : Fin 18 => iprop(|={Set.univ}=> semVal (ocell c k) 0)) fun k _ => ?_).trans (bigSep_fupd _ _)
  iintro ⟨#Hi, Hp⟩
  ihave Hc := (info_cell A K (mem_own c k)) $$ Hi
  iapply (Rounds.cell_close ER (Rd A) (g := ocell c k) (Set.mem_univ (K (ocell c k))) (fun h => h) (R := 0 + 1) (duties_later A _))
  isplitl [Hc]; · iexact Hc
  iexact Hp

theorem some_eq (c : Dev nD) : (Pipeline.scopedRest (Ix := Unit) (Name := ℕ) (U := UU) (Lvl := ℕ) (Val := Elt F) spec0 c : sProp 𝕄) = scratch c :=
  scopedRest0_eq c

/-! ## The body at its one grid point -/

/-- A staging buffer at known contents. -/
theorem owns_pts (c : Dev nD) (b : Ref sig .tc) (X : b.ty.Contents (Elt F)) :
    (owns (c : Thread nD τ) (Memref.whole b) fullShare X : sProp 𝕄) ⊣⊢ pts c b Finset.univ fullShare X := by
  rw [owns_whole_eq (c : Thread nD τ) b]
  refine ⟨?_, ?_⟩
  · iintro ⟨%f, %e, H⟩; subst e; iexact H
  · iintro H; iexists X; isplitr; · ipureintro; rfl
    iexact H

set_option maxHeartbeats 4000000 in
theorem body (c : Dev nD) : BodyObligation (dats m 0 c) (defs₀ (F := F)) 𝒱₀ () Set.univ := fun t => by
  obtain rfl := fin_N0 t
  rw [bigSep_W0, bigSep_W0]
  rw [show (dats m 0 c).Φ t0_0.castSucc = Φ₀ m c from rfl, show (dats m 0 c).Φ t0_0.succ = Φ₁ m c from rfl]
  unfold Φ₀ Φ₁ Xk Yk
  simp only [before0, before1, before2, before3, before4]
  refine BI.Entails.trans ?_ (wp_fupd _ _ _ _ _)
  show _ ⊢ wp frame (wpE (defs₀ (F := F)) 𝒱₀ (c : Thread nD τ) none) Set.univ
    (cc0_body M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) cc0_scratch4 cc0_scratch5 cc0_scratch6 cc0_scratch7) _
  iintro ⟨⟨⟨%K, #Hi, Hst⟩, Hsc, Hreg⟩, HO, ⟨%d0, H0⟩, ⟨%d1, H1⟩, ⟨%d2, H2⟩, ⟨%d3, H3⟩, ⟨%d4, H4⟩, ⟨%d5, H5⟩⟩
  ihave HO := (owesAt_elim m c t0_0.castSucc (owed c 12) rfl) $$ HO
  ihave H0 := (owns_pts (F := F) c cc0_stg0_0 _).1 $$ H0
  ihave H1 := (owns_pts (F := F) c cc0_stg1_0 _).1 $$ H1
  ihave H2 := (owns_pts (F := F) c cc0_stg2_0 _).1 $$ H2
  ihave H3 := (owns_pts (F := F) c cc0_stg3_0 _).1 $$ H3
  ihave H4 := (owns_pts (F := F) c cc0_stg4_0 _).1 $$ H4
  ihave H5 := (owns_pts (F := F) c cc0_stg5_0 _).1 $$ H5
  iapply (run (AA m) K c) $$ [Hst Hsc HO H0 H1 H2 H3 H4 H5]
  · unfold ins
    isplitr; · iexact Hi
    isplitl [Hst]; · iexact Hst
    isplitl [Hsc]; · iexact Hsc
    isplitl [H0 H1 H2 H3 H4]
    · isplitl [H0 H1 H2]
      · isplitl [H1]; · iexact H1
        isplitl [H2]; · iexact H2
        iexact H0
      isplitl [H3]; · iexact H3
      iexact H4
    isplitl [H5]; · iexists _; iexact H5
    iexact HO
  unfold ended ins
  iintro ⟨⟨Hb, Hp⟩, Hsc, ⟨⟨H1, H2, H0⟩, H3, H4⟩, H5, ⟨%W, HO⟩⟩
  imod (close_all (AA m) K c) $$ [Hp] with Hos
  · isplitr; · iexact Hi
    rw [fin18]; iexact Hp
  imodintro
  isplitl [Hb Hos Hsc Hreg]
  · isplitl [Hb]
    · iexists K; isplitr; · iexact Hi
      iexact Hb
    isplitl [Hos]; · iexact Hos
    isplitl [Hsc]; · iexact Hsc
    iexact Hreg
  isplitl [HO]; · iapply (owesAt_intro m c t0_0.succ (owed c 0) rfl W); iexact HO
  isplitl [H0]; · iapply (owns_pts (F := F) c cc0_stg0_0 (AA m c).x).2; iexact H0
  isplitl [H1]; · iapply (owns_pts (F := F) c cc0_stg1_0 (AA m c).rt).2; iexact H1
  isplitl [H2]; · iapply (owns_pts (F := F) c cc0_stg2_0 (AA m c).ex).2; iexact H2
  isplitl [H3]; · iapply (owns_pts (F := F) c cc0_stg3_0 (AA m c).cn).2; iexact H3
  isplitl [H4]; · iapply (owns_pts (F := F) c cc0_stg4_0 (AA m c).ew).2; iexact H4
  iapply (owns_pts (F := F) c cc0_stg5_0 (out4 (AA m) c)).2; iexact H5

end Cert.Moe
-- ==== Proof.Entry.lean ====
/-
The launch chain: three stretches of host operations and the kernel's region, with what passes between them.
-/
module

public import proofs.«01_k».proof.Proof.Region
public import Idealize.ShloMosaic.Lib.Pipeline.Regions

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Entering and leaving -/

/-- The rights to pay and what arrives, as in a device's start. -/
def rights (c : Dev nD) : sProp 𝕄 := iprop(
  (tok c 0 ∗ tok c 1 ∗ tok c 2 ∗ tok c 3 ∗ tok c 4 ∗ tok c 5 ∗ tok c 12 ∗ tok c 13 ∗ tok c 14)
  ∗ (tok (sh 1 c) 6 ∗ tok (sh 1 c) 7 ∗ tok (sh 3 c) 8 ∗ tok (sh 3 c) 9 ∗ tok (sh 1 c) 10 ∗ tok (sh 3 c) 11 ∗ tok (sh 1 c) 15 ∗ tok (sh 2 c) 16 ∗ tok (sh 3 c) 17)
  ∗ (due c 6 ∗ due c 7 ∗ due c 8 ∗ due c 9 ∗ due c 10 ∗ due c 11 ∗ due c 15 ∗ due c 16 ∗ due c 17))
def barStart (c : Dev nD) : sProp 𝕄 := iprop(btok (sh 1 c) 0 ∗ btok (sh 2 c) 1 ∗ btok (sh 3 c) 2 ∗ barArmed c)

/-- Kept from the launch until the kernel: the invariants, the copy semaphores still to open, the rights. -/
def Tk (c : Dev nD) : sProp 𝕄 := iprop(∃ K : GSem nD τ sig → ℕ, (bigSep allCells fun g => cellInv ER (Rd (AA m)) (K g) g)
  ∗ barStart c ∗ (bigSep Finset.univ fun k : Fin 18 => openTok ER (ocell c k)) ∗ rights c)

theorem open_one (A : Dev nD → Ins F) (K : GSem nD τ sig → ℕ) (c : Dev nD) (k : Fin 18) :
    iprop(info A K ∗ (openTok ER (ocell c k) ∗ semVal (ocell c k) 0)) ⊢ (|={Set.univ}=> fresh c k : sProp 𝕄) := by
  iintro ⟨#Hi, Ho, Hs⟩
  ihave Hc := (info_cell A K (mem_own c k)) $$ Hi
  iapply (Rounds.cell_open ER (Rd A) (g := ocell c k) (Set.mem_univ (K (ocell c k))))
  isplitl [Hc]; · iexact Hc
  isplitl [Ho] <;> iassumption

theorem open_all (A : Dev nD → Ins F) (K : GSem nD τ sig → ℕ) (c : Dev nD) :
    iprop(info A K ∗ bigSep Finset.univ fun k : Fin 18 => iprop(openTok ER (ocell c k) ∗ semVal (ocell c k) 0))
      ⊢ (|={Set.univ}=> bigSep Finset.univ fun k : Fin 18 => fresh c k : sProp 𝕄) :=
  (bigSep_with_persistent fun k _ => open_one A K c k).trans (bigSep_fupd _ _)

theorem hopen (c : Dev nD) : iprop(Tk m c ∗ Pipeline.ownSems0 osem c ∗ levAts L lv) ⊢ (|={Set.univ}=> Xk m c : sProp 𝕄) := by
  have hp : iprop((bigSep Finset.univ fun k : Fin 18 => openTok ER (ocell c k)) ∗ Pipeline.ownSems0 osem c)
      ⊢ (bigSep Finset.univ fun k : Fin 18 => iprop(openTok ER (ocell c k) ∗ semVal (ocell c k) 0) : sProp 𝕄) := Entails.of_eq (bigSep_sep' _ _ _).symm
  unfold Tk Xk
  iintro ⟨⟨%K, #Hc, Hb, Ho, Hr⟩, Hs, #Hl⟩
  have hi : iprop(levAts L lv ∗ bigSep allCells fun g => cellInv ER (Rd (AA m)) (K g) g) ⊢ (info (AA m) K : sProp 𝕄) := by
    unfold info; exact .rfl
  ihave #Hi := hi $$ [Hl Hc]
  · isplitr; · iexact Hl
    iexact Hc
  ihave H := hp $$ [Ho Hs]
  · isplitl [Ho] <;> iassumption
  imod (open_all (AA m) K c) $$ [H] with H
  · isplitr; · iexact Hi
    iexact H
  imodintro
  iexists K
  isplitr; · iexact Hi
  unfold start barStart rights
  isplitl [Hb]; · iexact Hb
  isplitl [H]; · rw [← fin18 (fun k => fresh c k)]; iexact H
  iexact Hr

theorem hclose (c : Dev nD) : Yk m c ⊢ (|={Set.univ}=> semVal (barCell c) 0 : sProp 𝕄) := by
  unfold Yk
  iintro ⟨%K, #Hi, Hb⟩
  ihave Hc := (info_cell (AA m) K (mem_bar c)) $$ Hi
  iapply (Rounds.cell_close ER (Rd (AA m)) (g := barCell c) (Set.mem_univ (K (barCell c))) (fun h => h) (R := 0 + 1) (duties_later (AA m) _))
  isplitl [Hc]; · iexact Hc
  iexact Hb

theorem held_none (c : Dev nD) (W : Valuation τ sig (Elt F)) : (StableHlo.held (c.tc : Thread nD τ) ∅ W : sProp 𝕄) = BI.emp := by
  unfold StableHlo.held; exact BI.bigSep_empty

abbrev adm : ∀ p : Fin 1, (pcfgs (F := F) p).Adm := fun p => (cfgs p).toPCfg_adm

theorem hin (c : Dev nD) : iprop(Pipeline.scopedRest (Pipeline.pin (pcfgs (F := F)) adm 0).spec c ∗ (∃ r, prngReg c r)
      ∗ StableHlo.held (c.tc : Thread nD τ) ∅ (W3 m c) ∗ Xk m c) ⊢ (dats m 0 c).Φ 0 := by
  rw [show (dats m 0 c).Φ 0 = Φ₀ m c from rfl, held_none]
  rw [show (Pipeline.scopedRest (Ix := Unit) (Name := ℕ) (U := UU) (Lvl := ℕ) (Val := Elt F) (Pipeline.pin (pcfgs (F := F)) adm 0).spec c : sProp 𝕄) = scratch c from some_eq c]
  unfold Φ₀
  iintro ⟨Hs, Hp, -, HX⟩
  isplitl [HX]; · iexact HX
  isplitl [Hs]; · iexact Hs
  iexact Hp

theorem hout (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (W4 m c) ∗ Pipeline.ownSems0 osem c ∗ Yk m c) := by
  rw [show (dats m 0 c).Φ (Fin.last _) = Φ₁ m c from rfl, held_none]
  rw [show (Pipeline.scopedRest (Ix := Unit) (Name := ℕ) (U := UU) (Lvl := ℕ) (Val := Elt F) (Pipeline.pin (pcfgs (F := F)) adm 0).spec c : sProp 𝕄) = scratch c from some_eq c]
  unfold Φ₁
  iintro ⟨HY, Ho, Hs, Hp⟩
  isplitl [Hs]; · iexact Hs
  isplitl [Hp]; · iexact Hp
  isplitr; · iempintro
  isplitl [Ho]; · iexact Ho
  iexact HY

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- A stage semaphore lies at level 0. -/
theorem stage_lv : ∀ (w : Fin 6) (s : Fin (spec0 w).nbuf), lvs (.dma ((spec0 w).sem s)) = 0 := by decide

theorem evl_pos : ∀ i < 12, 0 < evl i := by decide

theorem cutD (c : Dev nD) (t : Fin (cfg0.N + 1)) (g : GSem nD τ sig) (i : Unit) (h : 0 < (dats m 0 c).owed t g i) :
    i ∈ L g ∧ (0 : ℕ) < lv g i := by
  have key : ∀ n ≤ 12, 0 < owed c n g i → i ∈ L g ∧ (0 : ℕ) < lv g i := fun n hn h => by
    obtain ⟨k, hk, rfl⟩ := owed_pos h
    refine ⟨by rw [evc_tc]; exact Finset.mem_singleton_self _, ?_⟩
    cases i; rw [evc_lv]; exact evl_pos k (by omega)
  rcases t with ⟨_ | t, ht⟩
  · exact key 12 (le_refl _) h
  · exact key 0 (by omega) h

theorem owed_last (c : Dev nD) : (dats m 0 c).owed (Fin.last _) = 0 := rfl

/-- Every array off the windows, and the output's own place. -/
abbrev Sr : Finset (DevRef τ sig) := Pipeline.ucRefs τ sig \ Pipeline.arrRefs (τ := τ) spec0

theorem rest_same (c : Dev nD) : ∀ b ∈ Sr \ (∅ : Finset (DevRef τ sig)), W4 m c b = W3 m c b := fun b hb => by
  unfold W4
  refine Function.update_of_ne (fun h => ?_) _ _
  have hb := (Finset.mem_sdiff.mp (Finset.mem_sdiff.mp hb).1).2
  rw [h] at hb
  exact hb (Finset.mem_map_of_mem _ (Finset.mem_image.mpr ⟨5, Finset.mem_univ _, rfl⟩))

theorem arr_out (c : Dev nD) : (dats m 0 c).arrAt 5 cfg0.N = out4 (AA m) c :=
  (dats m 0 c).arrAt_eq_of_after_last 5 t0_0 (by decide +kernel) _ fun j => by
    blk_simp
    show out4 (AA m) c _ = out4 (AA m) c _
    rfl

local notation "ℝ𝕊" => Pipeline.RegionSeg (pcfgs (F := F)) adm (dats m) () (defs₀ (F := F)) 𝒱₀ L lv
local notation "ℍ" => Pipeline.HostSeg (Name := ℕ) (U := UU) (pcfgs (F := F)) (defs₀ (F := F)) 𝒱₀ L lv

theorem arr_in (c : Dev nD) (w : Fin 6) : (dats m 0 c).arrAt w 0 = W3 m c (Proc.devRef .tc (Pipeline.arrRef spec0 w)) := rfl

theorem W4_ne (c : Dev nD) (b : Ref sig .tc) (h : Proc.devRef (τ := τ) .tc b ≠ Proc.devRef .tc main_v16) :
    W4 m c (Proc.devRef .tc b) = V m c b := Function.update_of_ne h _ _
theorem W4_out (c : Dev nD) : W4 m c (Proc.devRef .tc main_v16) = out4 (AA m) c := Function.update_self _ _ _

theorem arr_end0 (c : Dev nD) : (dats m 0 c).arrAt 0 cfg0.N = W4 m c (Proc.devRef .tc main_v14) :=
  ((dats m 0 c).arrAt_in 0 rfl _).trans (W4_ne m c main_v14 (by decide)).symm
theorem arr_end1 (c : Dev nD) : (dats m 0 c).arrAt 1 cfg0.N = W4 m c (Proc.devRef .tc main_arg2) :=
  ((dats m 0 c).arrAt_in 1 rfl _).trans (W4_ne m c main_arg2 (by decide)).symm
theorem arr_end2 (c : Dev nD) : (dats m 0 c).arrAt 2 cfg0.N = W4 m c (Proc.devRef .tc main_v11) :=
  ((dats m 0 c).arrAt_in 2 rfl _).trans (W4_ne m c main_v11 (by decide)).symm
theorem arr_end3 (c : Dev nD) : (dats m 0 c).arrAt 3 cfg0.N = W4 m c (Proc.devRef .tc main_v13) :=
  ((dats m 0 c).arrAt_in 3 rfl _).trans (W4_ne m c main_v13 (by decide)).symm
theorem arr_end4 (c : Dev nD) : (dats m 0 c).arrAt 4 cfg0.N = W4 m c (Proc.devRef .tc main_v15) :=
  ((dats m 0 c).arrAt_in 4 rfl _).trans (W4_ne m c main_v15 (by decide)).symm
theorem arr_end5 (c : Dev nD) : (dats m 0 c).arrAt 5 cfg0.N = W4 m c (Proc.devRef .tc main_v16) :=
  (arr_out m c).trans (W4_out m c).symm

theorem arr_end (c : Dev nD) : ∀ w : Fin 6, (dats m 0 c).arrAt w cfg0.N = W4 m c (Proc.devRef .tc (Pipeline.arrRef spec0 w))
  | ⟨0, _⟩ => arr_end0 m c
  | ⟨1, _⟩ => arr_end1 m c
  | ⟨2, _⟩ => arr_end2 m c
  | ⟨3, _⟩ => arr_end3 m c
  | ⟨4, _⟩ => arr_end4 m c
  | ⟨5, _⟩ => arr_end5 m c

theorem share_full (c : Dev nD) (w : Fin 6) : (dats m 0 c).share w = fullShare := by
  unfold Dat.share; split <;> rfl

set_option backward.isDefEq.respectTransparency.types false in
/-- The kernel's region. -/
def reg : ℝ𝕊 0 :=
  Pipeline.RegionSeg.ofTalk (pcfgs (F := F)) adm (dats m) () (defs₀ (F := F)) 𝒱₀ L lv 0 osem (by decide : Pipeline.OwnSemFacts spec0 osem)
    ∅ Sr (Finset.empty_subset _) kit rfl (fun c => (body m c).loose)
    (fun _ => 0) (fun c => owed c 12) (fun c => (zero_add _).symm) (owed_last m) (fun _ => rfl) (share_full m)
    (W3 m) (W4 m) (rest_same m)
    (Tk m) (fun c => semVal (barCell c) 0) (Xk m) (Yk m) (hopen m) (hin m) (hout m) (hclose m)
    (fun _ => 0)
    ⟨fun c w s => by rw [L_tc]; exact Finset.mem_singleton_self _, fun c w s => (stage_lv w s).le, fun c t g i h => cutD m c t g i h⟩
    (fun _ => iprop(emp))
    (fun c w => arr_in m c w) (fun c w => arr_end m c w)

/-- What rides along with the host operations. -/
def R (c : Dev nD) : sProp 𝕄 := iprop(Tk m c ∗ (∃ r, prngReg c r) ∗ ∃ W, owes (c : Thread nD τ) (owed c 12) W)

abbrev UC : Finset (DevRef τ sig) := Pipeline.ucRefs τ sig

theorem sub0 : ∀ op ∈ (hostOps0 : List (HloOp τ sig (Elt F))), op.bufs ⊆ UC :=
  fun op h => Pipeline.sub_ucRefs op (List.forall_iff_forall_mem.mp hostOps0_sub op h)
theorem sub1 : ∀ op ∈ (hostOps0_1 : List (HloOp τ sig (Elt F))), op.bufs ⊆ UC :=
  fun op h => Pipeline.sub_ucRefs op (List.forall_iff_forall_mem.mp hostOps0_1_sub op h)
theorem sub2 : ∀ op ∈ (hostOps0_2 : List (HloOp τ sig (Elt F))), op.bufs ⊆ UC :=
  fun op h => Pipeline.sub_ucRefs op (List.forall_iff_forall_mem.mp hostOps0_2_sub op h)

def seg0 : ℍ := Pipeline.HostSeg.ofOps _ _ _ _ _ UC hostOps0 sub0 (List.forall_iff_forall_mem.mp hostOps0_fresh) (W0 m) (R m)
def seg1 : ℍ := Pipeline.HostSeg.ofOps _ _ _ _ _ UC hostOps0_1 sub1 (List.forall_iff_forall_mem.mp hostOps0_1_fresh) (W1 m) (R m)
def seg2 : ℍ := Pipeline.HostSeg.ofOps _ _ _ _ _ UC hostOps0_2 sub2 (List.forall_iff_forall_mem.mp hostOps0_2_fresh) (W2 m) (R m)

theorem held_cut (c : Dev nD) (W : Valuation τ sig (Elt F)) :
    (StableHlo.held (c.tc : Thread nD τ) UC W : sProp 𝕄)
      = iprop(StableHlo.held (c.tc : Thread nD τ) (Pipeline.arrRefs (τ := τ) spec0) W ∗ StableHlo.held (c.tc : Thread nD τ) Sr W) :=
  StableHlo.held_sub_split (c.tc : Thread nD τ) (Pipeline.arrRefs_sub_ucRefs spec0 (by decide)) W

theorem reg_pre (c : Dev nD) : iprop(StableHlo.held (c.tc : Thread nD τ) UC (W3 m c) ∗ R m c) ⊢ (reg m).pre c := by
  show _ ⊢ iprop(StableHlo.held (c.tc : Thread nD τ) (Pipeline.arrRefs (τ := τ) spec0) (W3 m c) ∗ (∃ r, prngReg c r)
    ∗ (StableHlo.held (c.tc : Thread nD τ) Sr (W3 m c) ∗ emp) ∗ Tk m c ∗ ∃ Wd, owes (c : Thread nD τ) (0 + owed c 12) Wd)
  rw [held_cut, zero_add]
  unfold R
  iintro ⟨⟨Ha, Hs⟩, HT, Hp, HO⟩
  isplitl [Ha]; · iexact Ha
  isplitl [Hp]; · iexact Hp
  isplitl [Hs]
  · isplitl [Hs]; · iexact Hs
    iempintro
  isplitl [HT]; · iexact HT
  iexact HO

theorem reg_post (c : Dev nD) : (reg m).post c
    ⊢ iprop((StableHlo.held (c.tc : Thread nD τ) UC (W4 m c) ∗ semVal (barCell c) 0) ∗ ∃ W, owes (c : Thread nD τ) (0 : CellTallies nD τ sig Unit) W) := by
  show iprop(StableHlo.held (c.tc : Thread nD τ) (Pipeline.arrRefs (τ := τ) spec0) (W4 m c) ∗ (∃ r, prngReg c r)
    ∗ (StableHlo.held (c.tc : Thread nD τ) Sr (W4 m c) ∗ emp) ∗ semVal (barCell c) 0 ∗ ∃ Wd, owes (c : Thread nD τ) (0 : CellTallies nD τ sig Unit) Wd) ⊢ _
  rw [held_cut]
  iintro ⟨Ha, -, ⟨Hs, -⟩, Hb, HO⟩
  isplitr [HO]
  · isplitl [Ha Hs]
    · isplitl [Ha]; · iexact Ha
      iexact Hs
    iexact Hb
  iexact HO

/-- @main as the list. -/
def segs : List (Pipeline.Seg (pcfgs (F := F)) adm (dats m) () (defs₀ (F := F)) 𝒱₀ L lv) :=
  [.host (seg0 m), .host (seg1 m), .host (seg2 m), .region (reg m)]

theorem main_eq (c : Dev nD) : main (F := F) c = Pipeline.Seg.run (segs m) := by
  rw [main_chain, Pipeline.Seg.run_eq_chain]
  rfl

end Cert.Moe
-- ==== Proof.Deal.lean ====
/-
The launch's holdings: every semaphore's rounds founded, the rights to pay dealt to the devices that pay, and the
credit for what arrives.
-/
module

public import proofs.«01_k».proof.Proof.Entry

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem dev_inj {c c' : Dev nD} {s s' : SemLoc sig} (h : (((c : Thread nD τ), s) : GSem nD τ sig) = ((c' : Thread nD τ), s')) : c = c' ∧ s = s' :=
  ⟨congrArg (fun g : GSem nD τ sig => g.1.1) h, congrArg Prod.snd h⟩

def barEmb : Dev nD ↪ GSem nD τ sig := ⟨barCell, fun _ _ h => (dev_inj h).1⟩
def ownEmb : Dev nD × Fin 18 ↪ GSem nD τ sig :=
  ⟨fun p => ocell p.1 p.2, fun _ _ h => Prod.ext (dev_inj h).1 (osem_inj (dev_inj h).2)⟩
abbrev barCells : Finset (GSem nD τ sig) := Finset.univ.map barEmb
abbrev ownCells : Finset (GSem nD τ sig) := Finset.univ.map ownEmb

theorem cells_eq : allCells = barCells ∪ ownCells := by
  unfold allCells barCells ownCells; rw [Finset.map_eq_image, Finset.map_eq_image]; rfl
theorem cells_disj : Disjoint barCells ownCells := by
  rw [Finset.disjoint_left]; intro g h h'
  obtain ⟨c, -, rfl⟩ := Finset.mem_map.mp h
  obtain ⟨p, -, h⟩ := Finset.mem_map.mp h'
  exact osem_ne_bar p.2 (dev_inj h).2

def barTokEmb : Dev nD × Fin 3 ↪ GSem nD τ sig × ℕ × Fin 3 :=
  ⟨fun p => (barCell p.1, 0, p.2), fun _ _ h => Prod.ext (dev_inj (congrArg Prod.fst h)).1 (congrArg (fun t : GSem nD τ sig × ℕ × Fin 3 => t.2.2) h)⟩
def ownTokEmb : Dev nD × Fin 18 ↪ GSem nD τ sig × ℕ × Fin 3 :=
  ⟨fun p => (ocell p.1 p.2, 0, 0), fun _ _ h => ownEmb.injective (congrArg Prod.fst h)⟩
abbrev barToks : Finset (GSem nD τ sig × ℕ × Fin 3) := Finset.univ.map barTokEmb
abbrev ownToks : Finset (GSem nD τ sig × ℕ × Fin 3) := Finset.univ.map ownTokEmb
theorem toks_disj : Disjoint barToks ownToks := by
  rw [Finset.disjoint_left]; intro g h h'
  obtain ⟨p, -, rfl⟩ := Finset.mem_map.mp h
  obtain ⟨q, -, h⟩ := Finset.mem_map.mp h'
  exact osem_ne_bar q.2 (dev_inj (congrArg Prod.fst h)).2

/-! ## Who pays what -/

/-- The device at whose copy semaphore `k` device `c` pays. -/
def who (k : Fin 18) (c : Dev nD) : Dev nD :=
  if k.val = 6 ∨ k.val = 7 ∨ k.val = 10 ∨ k.val = 15 then sh 1 c else if k.val = 16 then sh 2 c
  else if k.val = 8 ∨ k.val = 9 ∨ k.val = 11 ∨ k.val = 17 then sh 3 c else c
theorem who_bij : ∀ k, Function.Bijective (who k) := by decide
theorem sh_bij : ∀ d : Fin 3, Function.Bijective fun c : Dev nD => sh (d.val + 1) c := by decide

theorem fin3 (Φ : Fin 3 → sProp 𝕄) : bigSep Finset.univ Φ = iprop(Φ 0 ∗ Φ 1 ∗ Φ 2) :=
  bigSep_univ_eq_bigSepL [(0 : Fin 3), 1, 2] (by decide) (by decide) Φ
/-- The eighteen in the order in which a device's rights list them. -/
theorem fin18' (Φ : Fin 18 → sProp 𝕄) : bigSep Finset.univ Φ = iprop(Φ 0 ∗ Φ 1 ∗ Φ 2 ∗ Φ 3 ∗ Φ 4 ∗ Φ 5 ∗ Φ 12 ∗ Φ 13 ∗ Φ 14 ∗ Φ 6 ∗ Φ 7 ∗ Φ 8 ∗ Φ 9 ∗ Φ 10 ∗ Φ 11 ∗ Φ 15 ∗ Φ 16 ∗ Φ 17) :=
  bigSep_univ_eq_bigSepL [(0 : Fin 18), 1, 2, 3, 4, 5, 12, 13, 14, 6, 7, 8, 9, 10, 11, 15, 16, 17] (by decide) (by decide) Φ

/-- Two iterations may be exchanged. -/
theorem swap {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun p : α × β => Φ p.1 p.2), bigSep_univ_equiv (Equiv.prodComm β α), bigSep_univ_prod]; rfl

def payOwn (c : Dev nD) : sProp 𝕄 := iprop((tok c 0 ∗ tok c 1 ∗ tok c 2 ∗ tok c 3 ∗ tok c 4 ∗ tok c 5 ∗ tok c 12 ∗ tok c 13 ∗ tok c 14)
  ∗ (tok (sh 1 c) 6 ∗ tok (sh 1 c) 7 ∗ tok (sh 3 c) 8 ∗ tok (sh 3 c) 9 ∗ tok (sh 1 c) 10 ∗ tok (sh 3 c) 11 ∗ tok (sh 1 c) 15 ∗ tok (sh 2 c) 16 ∗ tok (sh 3 c) 17))
def payBar (c : Dev nD) : sProp 𝕄 := iprop(dutyTok ER (barCell (sh 1 c)) 0 (0 : Fin 3) ∗ dutyTok ER (barCell (sh 2 c)) 0 (1 : Fin 3) ∗ dutyTok ER (barCell (sh 3 c)) 0 (2 : Fin 3))

theorem own_dealt : bigSep ownToks (fun x => (dutyTok ER x.1 x.2.1 x.2.2 : sProp 𝕄)) ⊢ bigSep Finset.univ fun c : Dev nD => payOwn c := by
  have h1 : bigSep ownToks (fun x => (dutyTok ER x.1 x.2.1 x.2.2 : sProp 𝕄))
      = bigSep Finset.univ fun c : Dev nD => bigSep Finset.univ fun k : Fin 18 => tok (who k c) k := by
    unfold ownToks
    rw [bigSep_map, bigSep_univ_prod]
    show (bigSep Finset.univ fun c : Dev nD => bigSep Finset.univ fun k : Fin 18 => (tok c k : sProp 𝕄)) = _
    rw [swap, swap (fun (c : Dev nD) (k : Fin 18) => (tok (who k c) k : sProp 𝕄))]
    exact bigSep_congr fun k _ => bigSep_univ_equiv (Equiv.ofBijective _ (who_bij k)) fun c => (tok c k : sProp 𝕄)
  rw [h1]
  refine bigSep_mono fun c _ => ?_
  rw [fin18']
  show iprop(tok c 0 ∗ tok c 1 ∗ tok c 2 ∗ tok c 3 ∗ tok c 4 ∗ tok c 5 ∗ tok c 12 ∗ tok c 13 ∗ tok c 14
    ∗ tok (sh 1 c) 6 ∗ tok (sh 1 c) 7 ∗ tok (sh 3 c) 8 ∗ tok (sh 3 c) 9 ∗ tok (sh 1 c) 10 ∗ tok (sh 3 c) 11 ∗ tok (sh 1 c) 15 ∗ tok (sh 2 c) 16 ∗ tok (sh 3 c) 17) ⊢ _
  unfold payOwn
  iintro ⟨H0, H1, H2, H3, H4, H5, H12, H13, H14, H⟩
  isplitr [H]
  · isplitl [H0]; · iexact H0
    isplitl [H1]; · iexact H1
    isplitl [H2]; · iexact H2
    isplitl [H3]; · iexact H3
    isplitl [H4]; · iexact H4
    isplitl [H5]; · iexact H5
    isplitl [H12]; · iexact H12
    isplitl [H13]; · iexact H13
    iexact H14
  iexact H

theorem bar_dealt : bigSep barToks (fun x => (dutyTok ER x.1 x.2.1 x.2.2 : sProp 𝕄)) ⊢ bigSep Finset.univ fun c : Dev nD => payBar c := by
  have h1 : bigSep barToks (fun x => (dutyTok ER x.1 x.2.1 x.2.2 : sProp 𝕄))
      = bigSep Finset.univ fun c : Dev nD => bigSep Finset.univ fun d : Fin 3 => dutyTok ER (barCell (sh (d.val + 1) c)) 0 d := by
    unfold barToks
    rw [bigSep_map, bigSep_univ_prod]
    show (bigSep Finset.univ fun c : Dev nD => bigSep Finset.univ fun d : Fin 3 => (dutyTok ER (barCell c) 0 d : sProp 𝕄)) = _
    rw [swap, swap (fun (c : Dev nD) (d : Fin 3) => (dutyTok ER (barCell (sh (d.val + 1) c)) 0 d : sProp 𝕄))]
    exact bigSep_congr fun d _ => bigSep_univ_equiv (Equiv.ofBijective _ (sh_bij d)) fun c => (dutyTok ER (barCell c) 0 d : sProp 𝕄)
  rw [h1]
  refine bigSep_mono fun c _ => ?_
  rw [fin3]; exact BI.Entails.refl _

/-! ## The launch credit -/

abbrev O₀ (c : Dev nD) : CellTallies nD τ sig Unit := owed c 12

theorem total (g : GSem nD τ sig) (u : Unit) : (∑ d : Dev nD, O₀ d g u) = ∑ p ∈ (Finset.univ : Finset (Dev nD × Fin 12)).filter (fun p => g = evc p.1 p.2.val), eva p.2.val := by
  rw [Finset.sum_filter, Fintype.sum_prod_type]
  refine Finset.sum_congr rfl fun d _ => ?_
  rw [owed_apply, Finset.sum_range]

theorem total_one (g : GSem nD τ sig) (d : Dev nD) (i : Fin 12)
    (h : (Finset.univ : Finset (Dev nD × Fin 12)).filter (fun p => g = evc p.1 p.2.val) = {(d, i)}) :
    (tallyOn g (launchCredit (Pipeline.owing O₀) 0 g) : CellTallies nD τ sig Unit) = tallyAt g () (eva i.val) := by
  unfold tallyAt; refine congrArg _ (Finsupp.ext fun u => ?_); cases u
  rw [Pipeline.launchCredit_owing, Finsupp.single_eq_same, total, h, Finset.sum_singleton]

theorem total_bar (c : Dev nD) :
    (tallyOn (barCell c) (launchCredit (Pipeline.owing O₀) 0 (barCell c)) : CellTallies nD τ sig Unit) = tallyAt (barCell c) () 3 := by
  unfold tallyAt; refine congrArg _ (Finsupp.ext fun u => ?_); cases u
  rw [Pipeline.launchCredit_owing, Finsupp.single_eq_same, total,
    show (Finset.univ : Finset (Dev nD × Fin 12)).filter (fun p => barCell c = evc p.1 p.2.val) = {(sh 3 c, 11), (sh 2 c, 10), (sh 1 c, 9)} from by
      revert c; decide,
    Finset.sum_congr rfl (g := fun _ => 1) fun p hp => ?_, Finset.sum_const]
  · revert c; decide
  · simp only [Finset.mem_insert, Finset.mem_singleton] at hp
    rcases hp with rfl | rfl | rfl <;> rfl

/-- The copy semaphores at which others pay. -/
abbrev dueList : List (Fin 18) := [6, 7, 8, 9, 10, 11, 15, 16, 17]

/-- Which payment of which device arrives at copy semaphore `k`. -/
def src (k : Fin 18) (c : Dev nD) : Dev nD × Fin 12 :=
  if k.val = 6 then (sh 3 c, 5) else if k.val = 7 then (sh 3 c, 4) else if k.val = 8 then (sh 1 c, 3) else if k.val = 9 then (sh 1 c, 2)
  else if k.val = 10 then (sh 3 c, 1) else if k.val = 11 then (sh 1 c, 0) else if k.val = 15 then (sh 3 c, 8) else if k.val = 16 then (sh 2 c, 7) else (sh 1 c, 6)

theorem src_only : ∀ k ∈ dueList, ∀ c : Dev nD, (Finset.univ : Finset (Dev nD × Fin 12)).filter (fun p => ocell c k = evc p.1 p.2.val) = {src k c} := by
  decide

theorem src_amt : ∀ k ∈ dueList, ∀ c : Dev nD, eva (src k c).2.val = amt k := by
  intro k hk c
  simp only [dueList, List.mem_cons, List.not_mem_nil, or_false] at hk
  rcases hk with rfl | rfl | rfl | rfl | rfl | rfl | rfl | rfl | rfl <;> rfl

def osemEmb : Fin 18 ↪ SemLoc sig := ⟨osem, fun _ _ h => osem_inj h⟩

theorem dues_sub : dueList.toFinset.map osemEmb ⊆ (Finset.univ : Finset (SemLoc sig)).erase (SemLoc.reg barS) := fun s hs =>
  let ⟨k, _, e⟩ := Finset.mem_map.mp hs
  Finset.mem_erase.mpr ⟨fun h => osem_ne_bar k (e.trans h), Finset.mem_univ _⟩

theorem fin9 (Φ : Fin 18 → sProp 𝕄) : bigSep dueList.toFinset Φ = iprop(Φ 6 ∗ Φ 7 ∗ Φ 8 ∗ Φ 9 ∗ Φ 10 ∗ Φ 11 ∗ Φ 15 ∗ Φ 16 ∗ Φ 17) :=
  bigSep_eq_bigSepL_of_eq [6, 7, 8, 9, 10, 11, 15, 16, 17] rfl (by decide) Φ

/-- A device's launch credit: three at its barrier, and what the others' copies bring. -/
theorem creds (c : Dev nD) : (Pipeline.launchCred O₀ c : sProp 𝕄) ⊢ iprop(cred (tallyAt (barCell c) () 3)
    ∗ (due c 6 ∗ due c 7 ∗ due c 8 ∗ due c 9 ∗ due c 10 ∗ due c 11 ∗ due c 15 ∗ due c 16 ∗ due c 17)) := by
  unfold Pipeline.launchCred
  rw [bigSep_univ_at _ (SemLoc.reg barS), total_bar]
  refine sep_mono_right ?_
  refine (bigSep_subset dues_sub).trans ?_
  · rw [bigSep_map, bigSep_congr (Ψ := fun k => due c k) fun k hk => ?_,
      fin9]
    · exact BI.Entails.refl _
    · have hk := List.mem_toFinset.mp hk
      show (cred (tallyOn (ocell c k) (launchCredit (Pipeline.owing O₀) 0 (ocell c k))) : sProp 𝕄) = _
      rw [total_one (ocell c k) (src k c).1 (src k c).2 (src_only k hk c), src_amt k hk c]

end Cert.Moe
-- ==== Proof.Launch.lean ====
/-
The run: all devices launched, every execution ends with each device's result array at what its kernel computes,
the arguments as they were, and every semaphore at zero.
-/
module

public import proofs.«01_k».proof.Proof.Deal

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The launch element: the pipeline's at the staging semaphores, the protocol's at its own. -/
abbrev proto : UB := launchOf barCells ownCells (barToks ∪ ownToks)
def u₀ : UU :=
  (initOf (Pipeline.cells (Pipeline.pin (pcfgs (F := F)) adm) cellOf_inj) (Pipeline.launchToks (Pipeline.pin (pcfgs (F := F)) adm) cellOf_inj), proto)

/-- The whole of the protocol's element, kept at device 0 until the holdings are dealt. -/
def G (c : Dev nD) : sProp 𝕄 := if c = 0 then BI.own (ER proto) else iprop(emp)
theorem G_all : bigSep Finset.univ (G (F := F)) = (BI.own (ER proto) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What all devices may consult: the invariants, and every barrier's first round reached. -/
def records (κ : GSem nD τ sig → ℕ) : sProp 𝕄 :=
  iprop((bigSep allCells fun g => cellInv ER (Rd (AA m)) (κ g) g) ∗ bigSep barCells fun g => reached ER g 0)
instance records_persistent (κ : GSem nD τ sig → ℕ) : BI.Persistent (records m κ) := by unfold records; infer_instance

theorem reached_at (c : Dev nD) : (bigSep barCells fun g => (reached ER g 0 : sProp 𝕄)) ⊢ reached ER (barCell c) 0 :=
  bigSep_elim (Finset.mem_map_of_mem barEmb (Finset.mem_univ c))

/-- A device's own part of what the protocol's element gives. -/
def mine (c : Dev nD) : sProp 𝕄 := iprop(atPos ER (barCell c) 0 ∅ 0 ∗ (bigSep Finset.univ fun k : Fin 18 => openTok ER (ocell c k)) ∗ payBar c ∗ payOwn c)
/-- And of the rest. -/
def bundle (c : Dev nD) : sProp 𝕄 := iprop(StableHlo.held (c : Thread nD τ) UC (W0 m c) ∗ (cred (tallyAt (barCell c) () 3)
    ∗ (due c 6 ∗ due c 7 ∗ due c 8 ∗ due c 9 ∗ due c 10 ∗ due c 11 ∗ due c 15 ∗ due c 16 ∗ due c 17))
  ∗ owes (c : Thread nD τ) (O₀ c) ∅ ∗ ∃ r, prngReg c r)

abbrev T₀ (c : Dev nD) : sProp 𝕄 := iprop(StableHlo.held (c : Thread nD τ) UC (W0 m c) ∗ R m c)
abbrev Tₙ (c : Dev nD) : sProp 𝕄 := iprop(StableHlo.held (c : Thread nD τ) UC (W4 m c) ∗ semVal (barCell c) 0)

theorem T₀_intro (κ : GSem nD τ sig → ℕ) (c : Dev nD) : iprop(records m κ ∗ (mine c ∗ bundle m c)) ⊢ T₀ m c := by
  unfold records mine bundle T₀ R Tk barStart rights payBar payOwn
  iintro ⟨⟨#HI, #HR⟩, ⟨Hat, Ho, ⟨Hb0, Hb1, Hb2⟩, Ht1, Ht2⟩, Hh, ⟨Hc, Hd⟩, HO, Hp⟩
  isplitl [Hh]; · iexact Hh
  isplitr [HO Hp]
  · iexists κ
    isplitr; · iexact HI
    isplitl [Hat Hb0 Hb1 Hb2 Hc]
    · isplitl [Hb0]
      · isplitl [Hb0]; · iexact Hb0
        iapply (reached_at (F := F) (sh 1 c)); iexact HR
      isplitl [Hb1]
      · isplitl [Hb1]; · iexact Hb1
        iapply (reached_at (F := F) (sh 2 c)); iexact HR
      isplitl [Hb2]
      · isplitl [Hb2]; · iexact Hb2
        iapply (reached_at (F := F) (sh 3 c)); iexact HR
      isplitl [Hc]; · iexact Hc
      iexact Hat
    isplitl [Ho]; · iexact Ho
    isplitl [Ht1]; · iexact Ht1
    isplitl [Ht2]; · iexact Ht2
    iexact Hd
  isplitl [Hp]; · iexact Hp
  iexists ∅; iexact HO

theorem unscopedSems0_eq (c : Dev nD) : (unscopedSems0 c : sProp 𝕄) = semVal (barCell c) 0 := by
  unfold unscopedSems0
  rw [show (Finset.univ.filter fun sm : SemLoc sig => ¬sm.isScoped .tc = true) = {SemLoc.reg barS} from by decide, BI.bigSep_singleton]

theorem core_in (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
  rw [show unscopedBufs c (fun b => m ((c : Thread nD τ).loc b)) = StableHlo.held (c : Thread nD τ) UC (W0 m c) from Pipeline.unscopedBufs_held c (W0 m c),
    unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

/-- From the devices' launch holdings to what each enters its chain with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => bundle m c) ∗ (bigSep barCells fun g => semVal g 0) ∗ BI.own (ER proto)) : sProp 𝕄) := by
    refine (bigSep_mono fun c _ => core_in m ρ c).trans ?_
    rw [bigSep_sep', bigSep_sep']
    rw [show bigSep Finset.univ (fun c => G (F := F) c) = (BI.own (ER proto) : sProp 𝕄) from G_all,
      show (bigSep barCells fun g => (semVal g 0 : sProp 𝕄)) = bigSep Finset.univ fun c : Dev nD => semVal (barCell c) 0 from bigSep_map barEmb]
    exact BI.Entails.refl _
  have hat : bigSep barCells (fun g => (atPos ER g 0 ∅ 0 : sProp 𝕄)) ⊢ bigSep Finset.univ (fun c : Dev nD => (atPos ER (barCell c) 0 ∅ 0 : sProp 𝕄)) :=
    Entails.of_eq (bigSep_map barEmb)
  have hop : bigSep ownCells (fun g => (openTok ER g : sProp 𝕄))
      ⊢ bigSep Finset.univ (fun c : Dev nD => bigSep Finset.univ fun k : Fin 18 => (openTok ER (ocell c k) : sProp 𝕄)) :=
    Entails.of_eq (by unfold ownCells; rw [bigSep_map, bigSep_univ_prod]; rfl)
  have htok : bigSep (barToks ∪ ownToks) (fun x => (dutyTok ER x.1 x.2.1 x.2.2 : sProp 𝕄))
      ⊢ iprop((bigSep Finset.univ fun c : Dev nD => payBar c) ∗ bigSep Finset.univ fun c : Dev nD => payOwn c) :=
    by
    rw [bigSep_union toks_disj]; exact BI.sep_mono bar_dealt own_dealt
  have hmine : iprop((bigSep Finset.univ fun c : Dev nD => atPos ER (barCell c) 0 ∅ 0)
        ∗ (bigSep Finset.univ fun c : Dev nD => bigSep Finset.univ fun k : Fin 18 => openTok ER (ocell c k))
        ∗ (bigSep Finset.univ fun c : Dev nD => payBar c) ∗ bigSep Finset.univ fun c : Dev nD => payOwn c)
      ⊢ (bigSep Finset.univ fun c : Dev nD => mine c : sProp 𝕄) :=
    Entails.of_eq (by unfold mine; rw [bigSep_sep', bigSep_sep', bigSep_sep'])
  have hboth : iprop((bigSep Finset.univ fun c : Dev nD => mine c) ∗ bigSep Finset.univ fun c : Dev nD => bundle m c)
      ⊢ (bigSep Finset.univ fun c : Dev nD => iprop(mine c ∗ bundle m c) : sProp 𝕄) := Entails.of_eq (bigSep_sep' _ _ _).symm
  iintro ⟨H, -⟩
  ihave H := h1 $$ H
  icases H with ⟨HB, Hv, Hu⟩
  imod (Rounds.fund_launch ER (Rd (AA m)) cells_disj (fun g _ h => h) (barToks ∪ ownToks)) $$ [Hv Hu] with ⟨%κ, -, #Hinv, #Hr, Hat, Hopen, Htok⟩
  · isplitl [Hv]; · iexact Hv
    iexact Hu
  imodintro
  iapply (bigSep_with_persistent (R := records m κ) (Φ := fun c => iprop(mine c ∗ bundle m c)) fun c _ => T₀_intro m κ c)
  isplitr
  · unfold records
    rw [cells_eq]
    isplitr; · iexact Hinv
    iexact Hr
  iapply hboth
  isplitr [HB]
  · iapply hmine
    isplitl [Hat]; · iapply hat; iexact Hat
    isplitl [Hopen]; · iapply hop; iexact Hopen
    iapply htok; iexact Htok
  · iexact HB

theorem unscoped_bar : ∀ sm : SemLoc sig, sm.isScoped .tc = false → sm = .reg barS := by decide

/-- Of all the arrays, the result and the four arguments. -/
abbrev five : Finset (DevRef τ sig) := {Proc.devRef .tc main_v16, Proc.devRef .tc main_arg0, Proc.devRef .tc main_arg1, Proc.devRef .tc main_arg2, Proc.devRef .tc main_arg3}

theorem held_five (c : Dev nD) (W : Valuation τ sig (Elt F)) : (StableHlo.held (c : Thread nD τ) UC W : sProp 𝕄)
    ⊢ iprop(((c : Thread nD τ).loc main_v16 ↦{fullShare} W (Proc.devRef .tc main_v16)) ∗ ((c : Thread nD τ).loc main_arg0 ↦{fullShare} W (Proc.devRef .tc main_arg0))
      ∗ ((c : Thread nD τ).loc main_arg1 ↦{fullShare} W (Proc.devRef .tc main_arg1)) ∗ ((c : Thread nD τ).loc main_arg2 ↦{fullShare} W (Proc.devRef .tc main_arg2))
      ∗ ((c : Thread nD τ).loc main_arg3 ↦{fullShare} W (Proc.devRef .tc main_arg3))) := by
  unfold StableHlo.held
  refine (bigSep_subset (t := five) (by decide)).trans ?_
  rw [bigSep_eq_bigSepL_of_eq [Proc.devRef .tc main_v16, Proc.devRef .tc main_arg0, Proc.devRef .tc main_arg1, Proc.devRef .tc main_arg2, Proc.devRef .tc main_arg3] (by decide) (by decide) (fun b => (((c : Thread nD τ).1, b) ↦{fullShare} W b : sProp 𝕄))]
  exact BI.Entails.refl _

/-- What a device's memory holds at the end. -/
def Ends (c : Dev nD) (s : MemSt nD τ sig (Elt F)) : Prop :=
  s.mem ((c : Thread nD τ).loc main_v16) = out4 (AA m) c
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)

theorem W4_arg0 (c : Dev nD) : W4 m c (Proc.devRef .tc main_arg0) = m ((c : Thread nD τ).loc main_arg0) :=
  (W4_ne m c main_arg0 (by decide)).trans (V_main_arg0 m c)
theorem W4_arg1 (c : Dev nD) : W4 m c (Proc.devRef .tc main_arg1) = m ((c : Thread nD τ).loc main_arg1) :=
  (W4_ne m c main_arg1 (by decide)).trans (V_main_arg1 m c)
theorem W4_arg2 (c : Dev nD) : W4 m c (Proc.devRef .tc main_arg2) = m ((c : Thread nD τ).loc main_arg2) :=
  (W4_ne m c main_arg2 (by decide)).trans (V_main_arg2 m c)
theorem W4_arg3 (c : Dev nD) : W4 m c (Proc.devRef .tc main_arg3) = m ((c : Thread nD τ).loc main_arg3) :=
  (W4_ne m c main_arg3 (by decide)).trans (V_main_arg3 m c)

set_option backward.isDefEq.respectTransparency.types false in
/-- From any memory with every semaphore at zero, every fair execution of the program on the four devices ends, each
    device's result array at what its kernel computes, its arguments unchanged, every semaphore at zero. -/
theorem run_main : θ_run (defs (F := F)) (onTc (τ := τ) (main (F := F))) ⟨m, fun _ => 0, ρ⟩
    (fun r => (∀ c : Dev nD, Ends m c r.2) ∧ r.2.sem = fun _ => 0) :=
  Pipeline.θ_run_regions_kit_sems (pcfgs (F := F)) adm (dats m) () cellOf_inj EP (defs₀ (F := F)) 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => .rfl, fun c => .rfl, fun c => reg_pre m c, fun c => reg_post m c⟩)
    (hinit := init m ρ)
    (QY := fun c s => Ends m c s ∧ s.sem (barCell c) = 0)
    (hfin := fun c s' => by
      dsimp only [Tₙ]
      iintro ⟨⟨Hh, Hb⟩, HSI⟩
      ihave Hh := (held_five c (W4 m c)) $$ Hh
      icases Hh with ⟨Hv, H0, H1, H2, H3⟩
      icombine HSI Hv gives %hv
      icombine HSI H0 gives %h0
      icombine HSI H1 gives %h1
      icombine HSI H2 gives %h2
      icombine HSI H3 gives %h3
      icombine HSI Hb gives %hb
      imodintro
      isplitr
      · ipureintro
        exact ⟨⟨(Buf.eq_of_forall_mem_univ hv).trans (W4_out m c), (Buf.eq_of_forall_mem_univ h0).trans (W4_arg0 m c),
          (Buf.eq_of_forall_mem_univ h1).trans (W4_arg1 m c), (Buf.eq_of_forall_mem_univ h2).trans (W4_arg2 m c),
          (Buf.eq_of_forall_mem_univ h3).trans (W4_arg3 m c)⟩, by simpa using hb⟩
      iexact HSI)
    (hQ := fun s h hs => ⟨fun c => (h c).1,
      sem_eq_zero hs fun c sm hsm => by
        obtain rfl := unscoped_bar sm hsm
        exact (h c).2⟩)

end Cert.Moe
-- ==== Proof.Same.lean ====
/-
The program as printed and its idealization are the same text: their function tables agree.
-/
module
public import proofs.«01_k».proof.Proof.Launch
public import proofs.«01_k».proof.Kernel
public import proofs.«01_k».proof.Proof.Gen.Kernel

@[expose] public section

set_option maxRecDepth 65536

noncomputable section

namespace Cert.Moe

open Idealize.ShloMosaic Idealize.SL.Sem

variable {F : FTy → Type} [FloatOps F]

/-- The kernel body's table is the same in the two programs. -/
theorem body_table : (Cert.Kernel.defs₀ (F := F)) = Cert.KernelIdeal.defs₀ (F := F) := by
  unfold Cert.Kernel.defs₀ Cert.KernelIdeal.defs₀
  refine congrArg Defs.onTc ?_
  funext l a
  match l, a with
  | 0, (t, s) => rfl

/-- And so is the whole function table. -/
theorem table : (Cert.Kernel.defs (F := F)) = Cert.KernelIdeal.defs (F := F) := by
  unfold Cert.Kernel.defs Cert.KernelIdeal.defs
  exact congrArg (Pipeline.defs _) body_table

end Cert.Moe

end
-- ==== Proof.Marks.lean ====
/-
Marks and counts over the extended reals: a comparison read as 0 or 1, a sum of marks as the number of them,
and a running sum as a sum over the rows up to a row.
-/
module
public import proofs.«01_k».proof.KernelIdeal
public import Idealize.ShloMosaic.Lib.Pointwise

@[expose] public section

set_option maxRecDepth 16384

noncomputable section

namespace Cert.Moe

open Idealize.ShloMosaic
open scoped BigOperators

/-- Whether two words agree, as the host converts it to a float: 1 or 0. -/
theorem mark_host (a b : BitVec 32) :
    (FloatOps.uitofp FTy.f32 (IntOp.cmpi CmpIPredicate.eq a b) : Ideal .f32) = if a = b then (1 : EReal) else 0 := by
  show (((IntOp.cmpi CmpIPredicate.eq a b).toNat : ℝ) : EReal) = _
  by_cases h : a = b <;> simp [IntOp.cmpi, h]

/-- A truth value widened to a word and converted signed: 1 or 0. -/
theorem mark_bool (p : Prop) [Decidable p] :
    (FloatOps.sitofp FTy.f32 (BitVec.setWidth 32 (BitVec.ofBool (decide p))) : Ideal .f32) = if p then (1 : EReal) else 0 := by
  show (((BitVec.setWidth 32 (BitVec.ofBool (decide p))).toInt : ℝ) : EReal) = _
  by_cases h : p <;> simp [h]

/-- Whether two words agree, as the kernel converts it to a float. -/
theorem mark_word (a b : BitVec 32) :
    (FloatOps.sitofp FTy.f32 (BitVec.setWidth 32 (IntOp.cmpi CmpIPredicate.eq a b)) : Ideal .f32) = if a = b then (1 : EReal) else 0 := by
  have h : IntOp.cmpi CmpIPredicate.eq a b = BitVec.ofBool (decide (a = b)) := rfl
  rw [h]; exact mark_bool (a = b)

/-- The capacity's pattern denotes 204. -/
theorem capacity : Ideal.ofBits FTy.f32 1129054208#32 = ((204 : ℕ) : EReal) := by
  simp [Ideal.ofBits, Ideal.ieee]
  norm_num
  have h : ((13369344 : ℝ) : EReal) * (((1 / 65536 : ℝ)) : EReal) = ((204 : ℝ) : EReal) := by
    rw [← EReal.coe_mul]; norm_num
  exact h

/-- A sum of marks is the number of the marked. -/
theorem sum_marks {ι : Type} [Fintype ι] (p : ι → Prop) [DecidablePred p] :
    (∑ j, if p j then (1 : EReal) else 0) = ((Finset.univ.filter p).card : EReal) := Finset.sum_boole ..

theorem count_lt (a b : ℕ) : ((a : ℕ) : EReal) < ((b : ℕ) : EReal) ↔ a < b := by
  exact_mod_cast Iff.rfl

/-- One less than a successor. -/
theorem succ_sub (n : ℕ) : ((n + 1 : ℕ) : EReal) - 1 = (n : EReal) := by
  have h : ((n + 1 : ℕ) : EReal) - 1 = (((n + 1 : ℕ) : ℝ) : EReal) - ((1 : ℝ) : EReal) := rfl
  have h' : ((n + 1 : ℕ) : ℝ) - 1 = (n : ℝ) := by push_cast; ring
  rw [h, ← EReal.coe_sub, h']
  rfl

/-- A left fold of additions is the start plus the sum. -/
theorem fold_add {n : ℕ} (f : Fin n → EReal) (l : List (Fin n)) (a : EReal) :
    l.foldl (fun r k => r + f k) a = a + (l.map f).sum := by
  induction l generalizing a with
  | nil => simp
  | cons k l ih => simp [ih, add_assoc]

/-- A sum over a window that ends at `r` is the sum over the rows up to `r`. -/
theorem window_sum (x : Fin 512 → EReal) (r : Fin 512) :
    (∑ n : Fin 512, if h : 511 ≤ r.val + n.val then x ⟨r.val + n.val - 511, by omega⟩ else 0)
      = ∑ j : Fin 512, if j.val ≤ r.val then x j else 0 := by
  have e : ∀ n : Fin 512, (if h : 511 ≤ r.val + n.val then x ⟨r.val + n.val - 511, by omega⟩ else 0)
      = if 511 ≤ r.val + n.val then x ⟨r.val + n.val - 511, by omega⟩ else 0 := fun n => by
    split <;> rfl
  rw [Finset.sum_congr rfl fun n _ => e n, ← Finset.sum_filter, ← Finset.sum_filter]
  refine Finset.sum_bij' (fun n _ => (⟨r.val + n.val - 511, by omega⟩ : Fin 512))
    (fun j hj => ⟨j.val + 511 - r.val, by have := (Finset.mem_filter.1 hj).2; omega⟩) ?_ ?_ ?_ ?_ ?_
  · intro n hn
    have h1 := (Finset.mem_filter.1 hn).2
    have h2 := n.isLt
    refine Finset.mem_filter.2 ⟨Finset.mem_univ _, ?_⟩
    show r.val + n.val - 511 ≤ r.val
    omega
  · intro j hj
    have h1 := (Finset.mem_filter.1 hj).2
    refine Finset.mem_filter.2 ⟨Finset.mem_univ _, ?_⟩
    show 511 ≤ r.val + (j.val + 511 - r.val)
    omega
  · intro n hn; have := (Finset.mem_filter.1 hn).2; apply Fin.ext; simp; omega
  · intro j hj; have := (Finset.mem_filter.1 hj).2; apply Fin.ext; simp; omega
  · intro n hn; rfl

/-- The host's running sum along the rows, at a row: the sum over the rows up to it. -/
theorem running_sum (x : FVec Ideal ⟨2, ![512, 8]⟩ .f32) (v : FVec Ideal ⟨0, ![]⟩ .f32) (hv : ∀ i, v i = (0 : EReal))
    (h : (⟨2, ![512, 8]⟩ : Shape).ReduceWindows ![512, 1] ![1, 1] ![511, 0] ![0, 0] ⟨2, ![512, 8]⟩) (hu : 0 < (⟨0, ![]⟩ : Shape).numel)
    (r : Fin 512) (e : Fin 8) :
    (Host.reduceWindowAdd ![512, 1] ![1, 1] ![511, 0] ![0, 0] x v h hu (ix2 r e) : EReal)
      = ∑ j : Fin 512, if j.val ≤ r.val then (x (ix2 j e) : EReal) else 0 := by
  have hn : (⟨2, ![512, 1]⟩ : Shape).numel = 512 := by
    show ∏ a : Fin 2, (![512, 1] : Fin 2 → ℕ) a = 512
    rw [Fin.prod_univ_two]; rfl
  have hp : ∀ n : Fin (⟨2, ![512, 1]⟩ : Shape).numel, (⟨2, ![512, 1]⟩ : Shape).rowMajor.symm n = ix2 (n.cast hn) (0 : Fin 1) := fun n =>
    ((⟨2, ![512, 1]⟩ : Shape).rowMajor.symm_apply_eq).2 (Fin.ext (by
      rw [Shape.rowMajor_val_two]
      show n.val = n.val * 1 + 0
      omega))
  show Host.reduceWindow (· + ·) ![512, 1] ![1, 1] ![511, 0] ![0, 0] x (fun _ : (⟨0, ![]⟩ : Shape).Idx => v (Shape.Idx.first hu)) h (by decide) (ix2 r e) = _
  unfold Host.reduceWindow
  refine (fold_add _ _ _).trans ?_
  rw [hv, zero_add, ← Fin.sum_univ_def, ← window_sum (fun j => x (ix2 j e)) r]
  refine Fintype.sum_equiv (finCongr hn) _ _ fun n => ?_
  have h0 : ((⟨2, ![512, 1]⟩ : Shape).rowMajor.symm n 0).val = n.val := by rw [hp]; rfl
  have h1 : ((⟨2, ![512, 1]⟩ : Shape).rowMajor.symm n 1).val = 0 := by rw [hp]; rfl
  have hlt : n.val < 512 := (n.cast hn).isLt
  have hr := r.isLt
  have he := e.isLt
  by_cases hin : 511 ≤ r.val + n.val
  · rw [dif_pos (show 511 ≤ r.val + (finCongr hn n).val from hin)]
    rw [dif_pos (show _ from fun a => by
      match a with
      | ⟨0, _⟩ =>
        show 511 ≤ r.val * 1 + ((⟨2, ![512, 1]⟩ : Shape).rowMajor.symm n 0).val
          ∧ r.val * 1 + ((⟨2, ![512, 1]⟩ : Shape).rowMajor.symm n 0).val - 511 < 512
        rw [h0]; omega
      | ⟨1, _⟩ =>
        show 0 ≤ e.val * 1 + ((⟨2, ![512, 1]⟩ : Shape).rowMajor.symm n 1).val
          ∧ e.val * 1 + ((⟨2, ![512, 1]⟩ : Shape).rowMajor.symm n 1).val - 0 < 8
        rw [h1]; omega)]
    refine congrArg x (funext fun a => Fin.ext ?_)
    match a with
    | ⟨0, _⟩ =>
      show r.val * 1 + ((⟨2, ![512, 1]⟩ : Shape).rowMajor.symm n 0).val - 511 = r.val + n.val - 511
      rw [h0]; omega
    | ⟨1, _⟩ =>
      show e.val * 1 + ((⟨2, ![512, 1]⟩ : Shape).rowMajor.symm n 1).val - 0 = e.val
      rw [h1]; omega
  · rw [dif_neg (show ¬ 511 ≤ r.val + (finCongr hn n).val from hin)]
    rw [dif_neg fun hall => hin (by
      have h2 : 511 ≤ r.val * 1 + ((⟨2, ![512, 1]⟩ : Shape).rowMajor.symm n 0).val := (hall 0).1
      rw [h0] at h2; omega)]

end Cert.Moe

end
-- ==== Proof.Prefix.lean ====
/-
What the device's host program hands its kernel: the tokens, experts and weights as they are, for each token how
many of the device's earlier tokens chose its expert, and for each expert how many of the device's tokens chose it.
-/
module
public import proofs.«01_k».proof.Proof.Launch
public import proofs.«01_k».proof.Proof.Marks
public import Idealize.ShloMosaic.Lib.StableHlo.ReadAt

@[expose] public section

set_option maxRecDepth 16384

noncomputable section

namespace Cert.Moe

open Cert.KernelIdeal Cert.KernelIdeal.Gen
open Idealize.ShloMosaic
open Idealize.ShloMosaic.TcCoe
open scoped BigOperators

/-- How many of a device's tokens before `r` chose `r`'s expert. -/
def ahead (rt : Fin 512 → BitVec 32) (r : Fin 512) : ℕ := (Finset.univ.filter fun j : Fin 512 => rt r = rt j ∧ j.val < r.val).card

/-- How many of a device's tokens chose an expert. -/
def numberOf (rt : Fin 512 → BitVec 32) (e : BitVec 32) : ℕ := (Finset.univ.filter fun j : Fin 512 => rt j = e).card

/-- Counting the tokens up to `r`, `r` itself among them, is one more than counting those before. -/
theorem upto (rt : Fin 512 → BitVec 32) (r : Fin 512) :
    (∑ j : Fin 512, if j.val ≤ r.val then (if rt j = rt r then (1 : EReal) else 0) else 0) = ((ahead rt r + 1 : ℕ) : EReal) := by
  have h : ∀ j : Fin 512, (if j.val ≤ r.val then (if rt j = rt r then (1 : EReal) else 0) else 0)
      = if j.val ≤ r.val ∧ rt j = rt r then 1 else 0 := fun j => by
    by_cases h1 : j.val ≤ r.val <;> by_cases h2 : rt j = rt r <;> simp [h1, h2]
  rw [Finset.sum_congr rfl fun j _ => h j, sum_marks]
  have hs : (Finset.univ.filter fun j : Fin 512 => j.val ≤ r.val ∧ rt j = rt r)
      = insert r (Finset.univ.filter fun j : Fin 512 => rt r = rt j ∧ j.val < r.val) := by
    ext j
    simp only [Finset.mem_filter, Finset.mem_univ, true_and, Finset.mem_insert]
    constructor
    · rintro ⟨h1, h2⟩
      rcases Nat.lt_or_eq_of_le h1 with h | h
      · exact Or.inr ⟨h2.symm, h⟩
      · exact Or.inl (Fin.ext h)
    · rintro (rfl | ⟨h1, h2⟩)
      · exact ⟨le_refl _, rfl⟩
      · exact ⟨h2.le, h1.symm⟩
  rw [hs, Finset.card_insert_of_notMem (by simp)]
  rfl

variable (m : (ℓ : Loc nD τ sig) → Buf (Elt Ideal) ℓ)

/-- The expert each of a device's tokens chose. -/
def chosen (c : Dev nD) (j : Fin 512) : BitVec 32 := m (c, Proc.tc.devRef main_arg2) (ix2 j 0)

theorem rt_at (c : Dev nD) (r : Fin 512) : (AA m c).rt (ix2 r 0) = chosen m c r := by
  show V m c main_arg2 (ix2 r 0) = _
  unfold V
  after_reads_at
  rfl

theorem x_at (c : Dev nD) (r : Fin 512) (k : Fin 256) : (AA m c).x (ix2 r k) = m (c, Proc.tc.devRef main_arg0) (ix2 r k) := by
  show V m c main_v14 (ix2 r k) = _
  unfold V
  after_reads_at

theorem ew_at (c : Dev nD) (e : Fin 2) (k : Fin 256) (h : Fin 512) :
    (AA m c).ew (ix3 e k h) = m (c, Proc.tc.devRef main_arg3) (ix3 e k h) := by
  show V m c main_v15 (ix3 e k h) = _
  unfold V
  after_reads_at

/-- The tokens that chose each expert. -/
theorem cn_at (c : Dev nD) (e : Fin 8) :
    ((AA m c).cn (ix2 0 e) : EReal) = ((numberOf (chosen m c) (BitVec.ofNat 32 e.val) : ℕ) : EReal) := by
  show V m c main_v13 (ix2 0 e) = _
  unfold V
  after_reads_at
  simp only [mark_host]
  exact sum_marks _

/-- A token's place among the device's tokens of its expert, where its expert is one of the eight. -/
theorem ex_at (c : Dev nD) (r : Fin 512) :
    ((AA m c).ex (ix2 r 0) : EReal)
      = ∑ e : Fin 8, if chosen m c r = BitVec.ofNat 32 e.val then ((ahead (chosen m c) r : ℕ) : EReal) else 0 := by
  show V m c main_v11 (ix2 r 0) = _
  unfold V
  after_reads_at
  refine Finset.sum_congr rfl fun e _ => ?_
  rw [running_sum _ _ (fun i => by pointwise [constant])]
  pointwise
  simp only [mark_host]
  by_cases hc : chosen m c r = BitVec.ofNat 32 e.val
  · rw [if_pos hc, if_pos (show m (c, Proc.tc.devRef main_arg2) (ix2 r 0) = BitVec.ofNat 32 e.val from hc), ← hc]
    exact (congrArg (fun z : EReal => (z - 1) * 1) (upto (chosen m c) r)).trans (by rw [mul_one, succ_sub])
  · rw [if_neg hc, if_neg (show ¬ m (c, Proc.tc.devRef main_arg2) (ix2 r 0) = BitVec.ofNat 32 e.val from hc), mul_zero]

end Cert.Moe
-- ==== Proof.KernelValue.lean ====
/-
What one device's output holds, at a token and a coordinate: the sum, over the four devices' two experts, of the
token's product with the expert's weights where the token chose that expert within its capacity.
-/
module
public import proofs.«01_k».proof.Proof.Prefix

@[expose] public section

set_option maxRecDepth 16384

noncomputable section

namespace Cert.Moe

open Cert.KernelIdeal Cert.KernelIdeal.Gen
open Idealize.ShloMosaic
open Idealize.ShloMosaic.TcCoe
open scoped BigOperators

/-! ## The device's number as a word -/

theorem word_my : ∀ c : Dev nD, wMy c = BitVec.ofNat 32 c.val := by decide
theorem twice_my : ∀ c : Dev nD, Scalar.muli 2#32 (wMy c) = BitVec.ofNat 32 (2 * c.val) := by decide
theorem twice_left : ∀ c : Dev nD, Scalar.muli 2#32 (wL c) = BitVec.ofNat 32 (2 * (sh 3 c).val) := by decide
theorem twice_right : ∀ c : Dev nD, Scalar.muli 2#32 (wR c) = BitVec.ofNat 32 (2 * (sh 1 c).val) := by decide
theorem twice_far : ∀ c : Dev nD, Scalar.muli 2#32 (wD c) = BitVec.ofNat 32 (2 * (sh 2 c).val) := by decide
theorem next_word (n : ℕ) : Scalar.addi (BitVec.ofNat 32 n) 1#32 = BitVec.ofNat 32 (n + 1) := (BitVec.ofNat_add n 1).symm

theorem from1 : ∀ c : Dev nD, Scalar.cmpi .sge (wMy c) 1#32 = BitVec.ofBool (decide (1 ≤ c.val)) := by decide
theorem from2 : ∀ c : Dev nD, Scalar.cmpi .sge (wMy c) 2#32 = BitVec.ofBool (decide (2 ≤ c.val)) := by decide
theorem from3 : ∀ c : Dev nD, Scalar.cmpi .sge (wMy c) 3#32 = BitVec.ofBool (decide (3 ≤ c.val)) := by decide

theorem select_dec {α : Type} (p : Prop) [Decidable p] (a b : α) : Scalar.select (BitVec.ofBool (decide p)) a b = if p then a else b := by
  by_cases h : p <;> simp [Scalar.select, h]

/-! ## The halves of the weights and the slots of the counts -/

theorem shifted (n : ℕ) : 0 + 1 * n = n := by omega

theorem slab0_at (f : S2x256x512.Idx → Elt Ideal .bf16) (k : Fin 256) (h : Fin 512) : slab0 f (ix3 0 k h) = f (ix3 0 k h) :=
  congrArg f (funext fun a => Fin.ext (by match a with | ⟨0, _⟩ => rfl | ⟨1, _⟩ => exact shifted k.val | ⟨2, _⟩ => exact shifted h.val))

theorem slab1_at (f : S2x256x512.Idx → Elt Ideal .bf16) (k : Fin 256) (h : Fin 512) : slab1 f (ix3 0 k h) = f (ix3 1 k h) :=
  congrArg f (funext fun a => Fin.ext (by match a with | ⟨0, _⟩ => rfl | ⟨1, _⟩ => exact shifted k.val | ⟨2, _⟩ => exact shifted h.val))

theorem cslot0_at (f : S1x8.Idx → Elt Ideal .f32) (e : Fin 8) : cslot0 f (ix3 0 0 e) = f (ix2 0 e) :=
  congrArg f (funext fun a => Fin.ext (by match a with | ⟨0, _⟩ => rfl | ⟨1, _⟩ => exact shifted e.val))
theorem cslot1_at (f : S1x8.Idx → Elt Ideal .f32) (e : Fin 8) : cslot1 f (ix3 0 0 e) = f (ix2 0 e) :=
  congrArg f (funext fun a => Fin.ext (by match a with | ⟨0, _⟩ => rfl | ⟨1, _⟩ => exact shifted e.val))
theorem cslot2_at (f : S1x8.Idx → Elt Ideal .f32) (e : Fin 8) : cslot2 f (ix3 0 0 e) = f (ix2 0 e) :=
  congrArg f (funext fun a => Fin.ext (by match a with | ⟨0, _⟩ => rfl | ⟨1, _⟩ => exact shifted e.val))

variable (m : (ℓ : Loc nD τ sig) → Buf (Elt Ideal) ℓ)

/-- How many tokens of the devices before `c` chose an expert. -/
def before (c : Dev nD) (e : BitVec 32) : ℕ :=
  (if 1 ≤ c.val then numberOf (chosen m (sh 3 c)) e else 0) + (if 2 ≤ c.val then numberOf (chosen m (sh 2 c)) e else 0)
    + (if 3 ≤ c.val then numberOf (chosen m (sh 1 c)) e else 0)

theorem cast_if (p : Prop) [Decidable p] (n : ℕ) : (if p then (n : EReal) else 0) = ((if p then n else 0 : ℕ) : EReal) := by
  by_cases h : p <;> simp [h]

/-- The mask of the tokens within the capacity, at a token of one of the eight experts. -/
theorem keep_at (c : Dev nD) (r : Fin 512) (k : Fin 8) (hk : chosen m c r = BitVec.ofNat 32 k.val) :
    (keepv (AA m) c (ix2 r 0) : EReal) = if before m c (chosen m c r) + ahead (chosen m c) r < 204 then 1 else 0 := by
  have hinj : ∀ e : Fin 8, (chosen m c r = BitVec.ofNat 32 e.val) = (e = k) := fun e => by
    rw [hk]
    exact propext ⟨fun h => Fin.ext (by
      have h' := congrArg BitVec.toNat h
      simp only [BitVec.toNat_ofNat] at h'
      omega), fun h => by rw [h]⟩
  have hone : ∀ f : Fin 8 → EReal, (∑ x, (if x = k then (1 : EReal) else 0) * f x) = f k := fun f => by
    rw [Finset.sum_eq_single k (fun b _ h => by rw [if_neg h, zero_mul]) (fun h => absurd (Finset.mem_univ _) h), if_pos rfl, one_mul]
  have hb : (base2 (AA m) c (ix2 0 k) : EReal) = (if 1 ≤ c.val then ((numberOf (chosen m (sh 3 c)) (BitVec.ofNat 32 k.val) : ℕ) : EReal) else 0)
      + (if 2 ≤ c.val then ((numberOf (chosen m (sh 2 c)) (BitVec.ofNat 32 k.val) : ℕ) : EReal) else 0) := by
    unfold base2
    pointwise [k0_pay2]
    rw [from1, from2, select_dec, select_dec, cslot0_at, cslot1_at, cn_at, cn_at]
  unfold keepv
  pointwise [k0_pay4, k0_pay3]
  rw [mark_bool]
  simp only [mark_word, rt_at, ex_at, hinj]
  rw [hone, hb, from3, select_dec, cslot2_at, cn_at, Finset.sum_ite_eq' Finset.univ k, if_pos (Finset.mem_univ _), capacity,
    cast_if, cast_if, cast_if]
  rw [← Nat.cast_add, ← Nat.cast_add, ← Nat.cast_add]
  simp only [count_lt]
  rw [hk]
  rfl

/-! ## The output -/

/-- A device's tokens and its experts' weights. -/
def token (c : Dev nD) (r : Fin 512) (d : Fin 256) : EReal := m (c, Proc.tc.devRef main_arg0) (ix2 r d)
def wt (p : Dev nD) (e : Fin 2) (d : Fin 256) (h : Fin 512) : EReal := m (p, Proc.tc.devRef main_arg3) (ix3 e d h)

/-- What the weights of one expert, the `e`-th by device `p`, add to token `r` of device `c`. -/
def share (c : Dev nD) (r : Fin 512) (h : Fin 512) (p : Dev nD) (e : Fin 2) : EReal :=
  if before m c (chosen m c r) + ahead (chosen m c) r < 204 ∧ chosen m c r = BitVec.ofNat 32 (2 * p.val + e.val)
  then ∑ d : Fin 256, token m c r d * wt m p e d h else 0

/-- The product with a masked row is the product where the mask is one and zero where it is zero. -/
theorem masked (c : Dev nD) (r : Fin 512) (h : Fin 512) (p : Dev nD) (e : Fin 2) (w : BitVec 32)
    (hw : w = BitVec.ofNat 32 (2 * p.val + e.val)) (W : Fin 256 → EReal) (hW : ∀ d, W d = wt m p e d h) :
    (∑ d : Fin 256, token m c r d
        * ((keepv (AA m) c (ix2 r 0) : EReal) * (if chosen m c r = w then (1 : EReal) else 0)) * W d) = share m c r h p e := by
  subst hw
  unfold share
  by_cases hc : chosen m c r = BitVec.ofNat 32 (2 * p.val + e.val)
  · rw [keep_at m c r ⟨2 * p.val + e.val, by have hp : p.val < 4 := p.isLt; omega⟩ hc]
    by_cases hl : before m c (chosen m c r) + ahead (chosen m c) r < 204
    · rw [if_pos hc, if_pos hl, if_pos ⟨hl, hc⟩]
      exact Finset.sum_congr rfl fun d _ => by rw [mul_one, mul_one, hW]
    · rw [if_pos hc, if_neg hl, if_neg fun h' : _ ∧ _ => hl h'.1]
      exact Finset.sum_eq_zero fun d _ => by rw [zero_mul, mul_zero, zero_mul]
  · rw [if_neg hc, if_neg fun h' => hc h'.2]
    exact Finset.sum_eq_zero fun d _ => by rw [mul_zero, mul_zero, zero_mul]

theorem tok_at (c : Dev nD) (r : Fin 512) (d : Fin 256) : (AA m c).x (ix2 r d) = token m c r d := x_at m c r d
theorem half0_at (p : Dev nD) (d : Fin 256) (h : Fin 512) : slab0 (AA m p).ew (ix3 0 d h) = wt m p 0 d h :=
  (slab0_at _ d h).trans (ew_at m p 0 d h)
theorem half1_at (p : Dev nD) (d : Fin 256) (h : Fin 512) : slab1 (AA m p).ew (ix3 0 d h) = wt m p 1 d h :=
  (slab1_at _ d h).trans (ew_at m p 1 d h)

/-- After the device's own two experts. -/
theorem out1_at (c : Dev nD) (r h : Fin 512) :
    (out1 (AA m) c (ix2 r h) : EReal) = share m c r h c 0 + share m c r h c 1 := by
  unfold out1
  generalize hK : keepv (AA m) c = kp
  pointwise [k0_pay9, k0_pay8, k0_pay6, k0_pay7, k0_pay5, k0_pay3, dot_S512x256_S256x512_S512x512_1_0_0_1_n_n]
  subst hK
  simp only [mark_word, rt_at, tok_at]
  exact congrArg₂ (· + ·)
    (masked m c r h c 0 _ (twice_my c) (fun d => slab0 (AA m c).ew (ix3 0 d h)) fun d => half0_at m c d h)
    (masked m c r h c 1 _ (by rw [twice_my, next_word]; rfl) (fun d => slab1 (AA m c).ew (ix3 0 d h)) fun d => half1_at m c d h)

/-- After those of the device before. -/
theorem out2_at (c : Dev nD) (r h : Fin 512) :
    (out2 (AA m) c (ix2 r h) : EReal)
      = (out1 (AA m) c (ix2 r h) : EReal) + (share m c r h (sh 3 c) 0 + share m c r h (sh 3 c) 1) := by
  unfold out2
  generalize hO : out1 (AA m) c = o
  generalize hK : keepv (AA m) c = kp
  pointwise [k0_pay12, k0_pay10, k0_pay11, k0_pay5, k0_pay3, dot_S512x256_S256x512_S512x512_1_0_0_1_n_n]
  subst hK
  simp only [mark_word, rt_at, tok_at]
  exact congrArg (o (ix2 r h) + ·) (congrArg₂ (· + ·)
    (masked m c r h (sh 3 c) 0 _ (twice_left c) (fun d => slab0 (AA m (sh 3 c)).ew (ix3 0 d h)) fun d => half0_at m (sh 3 c) d h)
    (masked m c r h (sh 3 c) 1 _ (by rw [twice_left, next_word]; rfl) (fun d => slab1 (AA m (sh 3 c)).ew (ix3 0 d h)) fun d => half1_at m (sh 3 c) d h))

/-- After those of the device after. -/
theorem out3_at (c : Dev nD) (r h : Fin 512) :
    (out3 (AA m) c (ix2 r h) : EReal)
      = (out2 (AA m) c (ix2 r h) : EReal) + (share m c r h (sh 1 c) 0 + share m c r h (sh 1 c) 1) := by
  unfold out3
  generalize hO : out2 (AA m) c = o
  generalize hK : keepv (AA m) c = kp
  pointwise [k0_pay13, k0_pay5, k0_pay3, dot_S512x256_S256x512_S512x512_1_0_0_1_n_n]
  subst hK
  simp only [mark_word, rt_at, tok_at]
  exact congrArg (o (ix2 r h) + ·) (congrArg₂ (· + ·)
    (masked m c r h (sh 1 c) 0 _ (twice_right c) (fun d => slab0 (AA m (sh 1 c)).ew (ix3 0 d h)) fun d => half0_at m (sh 1 c) d h)
    (masked m c r h (sh 1 c) 1 _ (by rw [twice_right, next_word]; rfl) (fun d => slab1 (AA m (sh 1 c)).ew (ix3 0 d h)) fun d => half1_at m (sh 1 c) d h))

/-- After those of the device across. -/
theorem out4_at (c : Dev nD) (r h : Fin 512) :
    (out4 (AA m) c (ix2 r h) : EReal)
      = (out3 (AA m) c (ix2 r h) : EReal) + (share m c r h (sh 2 c) 0 + share m c r h (sh 2 c) 1) := by
  unfold out4
  generalize hO : out3 (AA m) c = o
  generalize hK : keepv (AA m) c = kp
  pointwise [k0_pay1, k0_pay5, k0_pay3, dot_S512x256_S256x512_S512x512_1_0_0_1_n_n]
  subst hK
  simp only [mark_word, rt_at, tok_at]
  exact congrArg (o (ix2 r h) + ·) (congrArg₂ (· + ·)
    (masked m c r h (sh 2 c) 0 _ (twice_far c) (fun d => slab0 (AA m (sh 2 c)).ew (ix3 0 d h)) fun d => half0_at m (sh 2 c) d h)
    (masked m c r h (sh 2 c) 1 _ (by rw [twice_far, next_word]; rfl) (fun d => slab1 (AA m (sh 2 c)).ew (ix3 0 d h)) fun d => half1_at m (sh 2 c) d h))

end Cert.Moe
-- ==== Proof.Spec.lean ====
/-
The mathematics both sides are read as: each row's product with its expert's weights, for the rows whose expert
has not yet taken its 204 rows.
-/
module
public import proofs.«01_k».proof.Proof.Marks

@[expose] public section

set_option maxRecDepth 16384

noncomputable section

namespace Cert.Moe

open Idealize.ShloMosaic
open scoped BigOperators

/-- How many earlier rows of all 2048 go to the expert that row `g` goes to. -/
def earlier (rt : Fin 2048 → BitVec 32) (g : Fin 2048) : ℕ :=
  (Finset.univ.filter fun j : Fin 2048 => rt g = rt j ∧ j.val < g.val).card

/-- What expert `k` adds to row `g`, column `h`: the row times the expert's weights if the row goes to `k` and `k` has room. -/
def added (x : Fin 2048 → Fin 256 → EReal) (rt : Fin 2048 → BitVec 32) (w : Fin 8 → Fin 256 → Fin 512 → EReal)
    (g : Fin 2048) (h : Fin 512) (k : Fin 8) : EReal :=
  if earlier rt g < 204 ∧ rt g = BitVec.ofNat 32 k.val then ∑ d : Fin 256, x g d * w k d h else 0

end Cert.Moe

end
-- ==== Proof.Value.lean ====
/-
Each device's output is its block of the reference's result. A token's place among all the tokens of its expert is
the count of the devices before its own plus its place on its own device; the eight experts are the four devices' two.
-/
module
public import proofs.«01_k».proof.Proof.KernelValue
public import proofs.«01_k».proof.Proof.Spec
public import Idealize.ShloMosaic.Lib.Layout

@[expose] public section

set_option maxRecDepth 16384

noncomputable section

namespace Cert.Moe

open Cert.KernelIdeal Cert.KernelIdeal.Gen
open Idealize.ShloMosaic
open Idealize.ShloMosaic.TcCoe
open scoped BigOperators

/-- Token `r` of device `c` among all the tokens. -/
def row (c : Dev nD) (r : Fin 512) : Fin 2048 := ⟨c.val * 512 + r.val, by have h : c.val < 4 := c.isLt; omega⟩

/-- Expert `e` of device `p` among all the experts. -/
def expert (p : Dev nD) (e : Fin 2) : Fin 8 := ⟨p.val * 2 + e.val, by have h : p.val < 4 := p.isLt; omega⟩

/-- A device's block of rows, at a row: the whole array at the row among all. -/
theorem block_row {α : Type} {n : ℕ} (c : Dev nD) (v : (⟨2, ![2048, n]⟩ : Shape).Idx → α)
    (t : Layout.Tiles ⟨2, ![512, n]⟩ ⟨2, ![2048, n]⟩ 0 4) (r : Fin 512) (d : Fin n) :
    Layout.block ⟨2, ![512, n]⟩ ⟨2, ![2048, n]⟩ 0 4 c v t (ix2 r d) = v (ix2 (row c r) d) :=
  congrArg v (funext fun a => Fin.ext (by match a with | ⟨0, _⟩ => rfl | ⟨1, _⟩ => rfl))

/-- A device's block of experts, at one: the whole array at that expert among all. -/
theorem block_expert {α : Type} (p : Dev nD) (v : (⟨3, ![8, 256, 512]⟩ : Shape).Idx → α)
    (t : Layout.Tiles ⟨3, ![2, 256, 512]⟩ ⟨3, ![8, 256, 512]⟩ 0 4) (e : Fin 2) (d : Fin 256) (h : Fin 512) :
    Layout.block ⟨3, ![2, 256, 512]⟩ ⟨3, ![8, 256, 512]⟩ 0 4 p v t (ix3 e d h) = v (ix3 (expert p e) d h) :=
  congrArg v (funext fun a => Fin.ext (by match a with | ⟨0, _⟩ => rfl | ⟨1, _⟩ => rfl | ⟨2, _⟩ => rfl))

/-- Counting over all the tokens is counting over each device's. -/
theorem count_rows (p : Fin 2048 → Prop) [DecidablePred p] :
    (Finset.univ.filter p).card = ∑ d : Fin 4, (Finset.univ.filter fun j : Fin 512 => p (row d j)).card := by
  simp only [Finset.card_filter]
  rw [← Fintype.sum_prod_type' (f := fun (d : Fin 4) (j : Fin 512) => if p (row d j) then 1 else 0)]
  refine (Fintype.sum_equiv (finProdFinEquiv (m := 4) (n := 512)) _ _ fun x => ?_).symm
  have h : row x.1 x.2 = (finProdFinEquiv (m := 4) (n := 512)) x := Fin.ext (by
    show x.1.val * 512 + x.2.val = x.2.val + 512 * x.1.val
    omega)
  exact if_congr (iff_of_eq (congrArg p h)) rfl rfl

/-- The devices before one, whose own count comes after, in the order its counts arrive. -/
theorem spread (c : Dev nD) (a : ℕ) (f : Dev nD → ℕ) :
    (if (0 : Fin 4).val < c.val then f 0 else if (0 : Fin 4) = c then a else 0) + (if (1 : Fin 4).val < c.val then f 1 else if (1 : Fin 4) = c then a else 0)
        + (if (2 : Fin 4).val < c.val then f 2 else if (2 : Fin 4) = c then a else 0) + (if (3 : Fin 4).val < c.val then f 3 else if (3 : Fin 4) = c then a else 0)
      = (if 1 ≤ c.val then f (sh 3 c) else 0) + (if 2 ≤ c.val then f (sh 2 c) else 0) + (if 3 ≤ c.val then f (sh 1 c) else 0) + a := by
  have h13 : sh 3 1 = 0 := by decide
  have h23 : sh 3 2 = 1 := by decide
  have h22 : sh 2 2 = 0 := by decide
  have h33 : sh 3 3 = 2 := by decide
  have h32 : sh 2 3 = 1 := by decide
  have h31 : sh 1 3 = 0 := by decide
  have hc : c = 0 ∨ c = 1 ∨ c = 2 ∨ c = 3 := by revert c; decide
  rcases hc with rfl | rfl | rfl | rfl
  · simp
  · simp [h13]
  · simp [h23, h22, nD]; ac_rfl
  · simp [h33, h32, h31, nD]; ac_rfl

/-- The experts of a device and of the three others are the eight experts. -/
theorem all_experts (c : Dev nD) (f : Fin 8 → EReal) :
    f (expert c 0) + f (expert c 1) + (f (expert (sh 3 c) 0) + f (expert (sh 3 c) 1)) + (f (expert (sh 1 c) 0) + f (expert (sh 1 c) 1))
        + (f (expert (sh 2 c) 0) + f (expert (sh 2 c) 1)) = f 0 + f 1 + f 2 + f 3 + f 4 + f 5 + f 6 + f 7 := by
  have hs : ∀ c : Dev nD, (c = 0 ∧ sh 3 c = 3 ∧ sh 1 c = 1 ∧ sh 2 c = 2) ∨ (c = 1 ∧ sh 3 c = 0 ∧ sh 1 c = 2 ∧ sh 2 c = 3)
      ∨ (c = 2 ∧ sh 3 c = 1 ∧ sh 1 c = 3 ∧ sh 2 c = 0) ∨ (c = 3 ∧ sh 3 c = 2 ∧ sh 1 c = 0 ∧ sh 2 c = 1) := by decide
  have e00 : expert 0 0 = 0 := by decide
  have e01 : expert 0 1 = 1 := by decide
  have e10 : expert 1 0 = 2 := by decide
  have e11 : expert 1 1 = 3 := by decide
  have e20 : expert 2 0 = 4 := by decide
  have e21 : expert 2 1 = 5 := by decide
  have e30 : expert 3 0 = 6 := by decide
  have e31 : expert 3 1 = 7 := by decide
  rcases hs c with ⟨h, h3, h1, h2⟩ | ⟨h, h3, h1, h2⟩ | ⟨h, h3, h1, h2⟩ | ⟨h, h3, h1, h2⟩ <;>
    (rw [h3, h1, h2, h, e00, e01, e10, e11, e20, e21, e30, e31]; ac_rfl)

variable (m : (ℓ : Loc nD τ sig) → Buf (Elt Ideal) ℓ)

section
variable {X : Fin 2048 → Fin 256 → EReal} {RT : Fin 2048 → BitVec 32} {W : Fin 8 → Fin 256 → Fin 512 → EReal}

/-- A token's place among all the tokens of its expert. -/
theorem earlier_row (hr : ∀ c j, chosen m c j = RT (row c j)) (c : Dev nD) (r : Fin 512) :
    earlier RT (row c r) = before m c (chosen m c r) + ahead (chosen m c) r := by
  have part : ∀ d : Fin 4, (Finset.univ.filter fun j : Fin 512 => RT (row c r) = RT (row d j) ∧ (row d j).val < (row c r).val).card
      = if d.val < c.val then numberOf (chosen m d) (chosen m c r) else if d = c then ahead (chosen m c) r else 0 := fun d => by
    have hrl := r.isLt
    split_ifs with h1 h2
    · refine congrArg Finset.card (Finset.filter_congr fun j _ => ?_)
      rw [hr, hr]
      have hj := j.isLt
      exact ⟨fun h => h.1.symm, fun h => ⟨h.symm, show d.val * 512 + j.val < c.val * 512 + r.val by omega⟩⟩
    · subst h2
      refine congrArg Finset.card (Finset.filter_congr fun j _ => ?_)
      rw [hr, hr]
      refine and_congr Iff.rfl ?_
      show d.val * 512 + j.val < d.val * 512 + r.val ↔ j.val < r.val
      omega
    · refine Finset.card_eq_zero.2 (Finset.filter_eq_empty_iff.2 fun j _ h => ?_)
      have h3 : d.val * 512 + j.val < c.val * 512 + r.val := h.2
      have h4 : d.val ≠ c.val := fun e => h2 (Fin.ext e)
      omega
  unfold earlier
  rw [count_rows, Finset.sum_congr rfl fun d _ => part d, Fin.sum_univ_four]
  unfold before
  generalize chosen m c r = e
  generalize ahead (chosen m c) r = a
  rw [spread c a fun d => numberOf (chosen m d) e]

/-- What one expert adds to a token is what the reference adds for it. -/
theorem share_eq (hx : ∀ c r d, token m c r d = X (row c r) d) (hr : ∀ c j, chosen m c j = RT (row c j))
    (hw : ∀ p e d h, wt m p e d h = W (expert p e) d h) (c : Dev nD) (r h : Fin 512) (p : Dev nD) (e : Fin 2) :
    share m c r h p e = added X RT W (row c r) h (expert p e) := by
  unfold share added
  rw [← earlier_row m hr]
  simp only [hx, hw, hr]
  have he : 2 * p.val + e.val = (expert p e).val := by show _ = p.val * 2 + e.val; omega
  rw [he]

/-- The device's output, at a token: the reference's sum over the eight experts. -/
theorem out_eq (hx : ∀ c r d, token m c r d = X (row c r) d) (hr : ∀ c j, chosen m c j = RT (row c j))
    (hw : ∀ p e d h, wt m p e d h = W (expert p e) d h) (c : Dev nD) (r h : Fin 512) :
    (out4 (AA m) c (ix2 r h) : EReal) = ∑ k : Fin 8, added X RT W (row c r) h k := by
  rw [out4_at, out3_at, out2_at, out1_at]
  simp only [share_eq m hx hr hw]
  rw [Fin.sum_univ_eight]
  exact all_experts c (added X RT W (row c r) h)

end

end Cert.Moe
-- ==== Proof.RefValue.lean ====
/-
The reference's result at an element: the sum of what the eight experts add.
-/
module
public import proofs.«01_k».proof.Proof.Gen.ReferenceIdeal.Run
public import proofs.«01_k».proof.Proof.Spec

@[expose] public section

set_option maxRecDepth 16384

noncomputable section

namespace Cert.Moe

open Cert.ReferenceIdeal Cert.ReferenceIdeal.Value
open Idealize.ShloMosaic
open Idealize.ShloMosaic.TcCoe
open scoped BigOperators

/-- A choice under two marks joined. -/
theorem pick (p : Prop) [Decidable p] (a b : BitVec 32) (x y : EReal) :
    Scalar.select (IntOp.andi (BitVec.ofBool (decide p)) (IntOp.cmpi CmpIPredicate.eq a b)) x y = if p ∧ a = b then x else y := by
  have h : IntOp.cmpi CmpIPredicate.eq a b = BitVec.ofBool (decide (a = b)) := rfl
  rw [h]
  by_cases hp : p <;> by_cases hq : a = b <;> simp [hp, hq, IntOp.andi, Scalar.select]

/-- Two rows' numbers compare as words as they do as numbers. -/
theorem row_lt (j g : Fin 2048) :
    IntOp.cmpi CmpIPredicate.slt (BitVec.ofNat 32 j.val) (BitVec.ofNat 32 g.val) = BitVec.ofBool (decide (j.val < g.val)) := by
  have e : ∀ n : Fin 2048, (BitVec.ofNat 32 n.val).toInt = (n.val : ℤ) := fun n => by
    have hn := n.isLt
    rw [BitVec.toInt_eq_toNat_cond, BitVec.toNat_ofNat, Nat.mod_eq_of_lt (by omega), if_pos (by omega)]
  show BitVec.ofBool (decide ((BitVec.ofNat 32 j.val).toInt < (BitVec.ofNat 32 g.val).toInt)) = _
  rw [e, e]
  simp only [Nat.cast_lt]

/-- The reference's running count, as a number. -/
theorem ref_count (rt : Fin 2048 → BitVec 32) (g : Fin 2048) :
    (∑ j : Fin 2048, (FloatOps.uitofp FTy.f32 (IntOp.andi (IntOp.cmpi CmpIPredicate.eq (rt g) (rt j))
        (IntOp.cmpi CmpIPredicate.slt (BitVec.ofNat 32 j.val) (BitVec.ofNat 32 g.val))) : Ideal .f32))
      = ((earlier rt g : ℕ) : EReal) := by
  unfold earlier
  rw [← sum_marks]
  refine Finset.sum_congr rfl fun j _ => ?_
  have h : IntOp.cmpi CmpIPredicate.eq (rt g) (rt j) = BitVec.ofBool (decide (rt g = rt j)) := rfl
  rw [row_lt, h]
  show (((IntOp.andi _ _).toNat : ℝ) : EReal) = _
  by_cases hp : rt g = rt j <;> by_cases hq : j.val < g.val <;> simp [hp, hq, IntOp.andi]

set_option maxHeartbeats 6000000 in
/-- The reference's result at row `g`, column `h`. -/
theorem ref_at (m : (ℓ : Loc nD τ sig) → Buf (Elt Ideal) ℓ) (c : Dev nD) (g : Fin 2048) (h : Fin 512) :
    (res_main_v80 m c (ix2 g h) : EReal)
      = ∑ k : Fin 8, added (fun g d => m (c.tc.loc main_arg0) (ix2 g d)) (fun g => m (c.tc.loc main_arg2) (ix2 g 0))
          (fun k d h => m (c.tc.loc main_arg3) (ix3 k d h)) g h k := by
  pointwise [res_main_v80, dot_S2048x256_S256x512_S2048x512_1_0_0_1_n_n]
  have z : (id (constant (F := Ideal) S_ FTy.f32 0#32) ix0 : EReal) = 0 := Ideal.ofBits_zero_f32
  have hc := ref_count (fun g => m (c.tc.loc main_arg2) (ix2 g 0)) g
  rw [hc, capacity, z]
  simp only [pick, count_lt, Fin.sum_univ_eight]
  rfl

end Cert.Moe

end
-- ==== Proof.lean ====
/-
The claims of this certificate, assembled: the program's run at both float types, and the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- What a frame states of the program's end: on every device the four arguments are as they were, and every semaphore
    is at zero. Stated of the idealized program's own state, at any float type. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run Cert.KernelIdeal.defs _ _).mono (fun _ h => ⟨fun c => (h.1 c).2, h.2⟩) (Cert.Moe.run_main (F := F) m ρ)

/-- The program as printed runs, leaves its arguments and ends with every semaphore at zero. -/
theorem frame_kernel : Cert.quiescent_Kernel := by
  intro m ρ _
  have h := frame_any (F := Bits) m ρ
  rw [← Cert.Moe.table] at h
  exact h

/-- And so over the reals. -/
theorem frame_ideal : Cert.quiescent_KernelIdeal := fun m ρ _ => frame_any (F := Ideal) m ρ

/-- The reference's frame: its run names no semaphore. -/
theorem frame_reference : Cert.quiescent_ReferenceIdeal := fun m ρ _ =>
  θ_run_mono (Cert.ReferenceIdeal.Value.run (F := Ideal) m ρ) fun _ h => ⟨fun c => (h c).2, sem_eq_zero_of_no_sems rfl _⟩

/-- Over the reals, from arguments laid out in blocks, each device's output is its block of the reference's result. -/
theorem algebraic : Cert.algebraic_KernelIdeal_ReferenceIdeal := by
  intro m g m' g' _ hin
  refine ⟨Cert.ReferenceIdeal.Value.res_main_v80 m' 0, ?_, ?_⟩
  · refine (θ_run Cert.KernelIdeal.defs _ _).mono (fun r h c => ⟨((h.1 c).1).trans ?_, (h.1 c).2⟩) (Cert.Moe.run_main (F := Ideal) m g)
    funext i
    have hi : i = ix2 (i 0) (i 1) := funext fun a => by match a with | ⟨0, _⟩ => rfl | ⟨1, _⟩ => rfl
    rw [hi]
    generalize i 0 = r
    generalize i 1 = l
    refine (Cert.Moe.out_eq m (fun c r d => ?_) (fun c j => ?_) (fun p e d h => ?_) c r l).trans
      (Cert.Moe.ref_at m' 0 (Cert.Moe.row c r) l).symm |>.trans ?_
    · exact (congrFun (hin c).1 (ix2 r d)).trans (Cert.Moe.block_row c _ _ r d)
    · exact (congrFun (hin c).2.2.1 (ix2 j 0)).trans (Cert.Moe.block_row c _ _ j 0)
    · exact (congrFun (hin p).2.2.2 (ix3 e d h)).trans (Cert.Moe.block_expert p _ _ e d h)
    · exact (Cert.Moe.block_row c _ _ r l).symm
  · exact θ_run_mono (Cert.ReferenceIdeal.Value.run (F := Ideal) m' g') fun _ h => h 0

/-- The certificate's claims together. -/
theorem claim : Cert.Claim := ⟨Cert.Kernel.Gen.facts, Cert.KernelIdeal.Gen.facts, Cert.ReferenceIdeal.Gen.facts,
  frame_kernel, frame_ideal, frame_reference, trivial, algebraic⟩

end Cert.Proof

end
